-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S512x1024 : Shape := ⟨2, ![512, 1024]⟩
abbrev S_ : Shape := ⟨0, ![]⟩
abbrev S8 : Shape := ⟨1, ![8]⟩
abbrev S4 : Shape := ⟨1, ![4]⟩
abbrev S2 : Shape := ⟨1, ![2]⟩
abbrev S1 : Shape := ⟨1, ![1]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .bf16⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c8_i32_23 : BitVec 32 := 8#32
  let c0_i32_24 : BitVec 32 := 0#32
  let v45 : BitVec 1 := Scalar.cmpi .eq c8_i32_23 c0_i32_24
  let c1_i32_25 : BitVec 32 := 1#32
  let v46 : BitVec 32 := Scalar.select v45 c1_i32_25 c8_i32_23
  let v47 : BitVec 32 := Scalar.remsi v12 v46
  let c0_i32_27 : BitVec 32 := 0#32
  let v49 : BitVec 1 := Scalar.cmpi .slt v47 c0_i32_27
  let c0_i32_28 : BitVec 32 := 0#32
  let v50 : BitVec 1 := Scalar.cmpi .slt v46 c0_i32_28
  let v51 : BitVec 1 := Scalar.xori v49 v50
  let c0_i32_26 : BitVec 32 := 0#32
  let v48 : BitVec 1 := Scalar.cmpi .ne v47 c0_i32_26
  let v52 : BitVec 1 := Scalar.andi v51 v48
  let v53 : BitVec 32 := Scalar.addi v47 v46
  let v54 : BitVec 32 := Scalar.select v52 v53 v47
  let c512_i32 : BitVec 32 := 512#32
  let v55 : BitVec 32 := Scalar.muli v54 c512_i32
  let c0_i32_29 : BitVec 32 := 0#32
  ![v55.toNat, 0]
def k0_dev1 (d0 : Dev nD) : Nat :=
  let c0_i32_32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_31 : BitVec 32 := 8#32
  let v58 : BitVec 32 := Scalar.muli v9 c8_i32_31
  let v59 : BitVec 32 := Scalar.addi c0_i32_32 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v60 : BitVec 32 := Scalar.muli v5 c4_i32_33
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v62 : BitVec 32 := Scalar.muli v8 c1_i32_34
  let v63 : BitVec 32 := Scalar.addi v61 v62
  v63.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v64 : BitVec 32 := Scalar.muli v2 c8_i32_36
  let v65 : BitVec 32 := Scalar.addi c0_i32_37 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_38 : BitVec 32 := 4#32
  let v66 : BitVec 32 := Scalar.muli v25 c4_i32_38
  let v67 : BitVec 32 := Scalar.addi v65 v66
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_39 : BitVec 32 := 1#32
  let v68 : BitVec 32 := Scalar.muli v28 c1_i32_39
  let v69 : BitVec 32 := Scalar.addi v67 v68
  v69.toNat
def k0_dev3 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v70 : BitVec 32 := Scalar.muli v2 c8_i32_41
  let v71 : BitVec 32 := Scalar.addi c0_i32_42 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_43 : BitVec 32 := 4#32
  let v72 : BitVec 32 := Scalar.muli v41 c4_i32_43
  let v73 : BitVec 32 := Scalar.addi v71 v72
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_44 : BitVec 32 := 1#32
  let v74 : BitVec 32 := Scalar.muli v44 c1_i32_44
  let v75 : BitVec 32 := Scalar.addi v73 v74
  v75.toNat
def k0_off2 (d0 : Dev nD) (c0_i32_51 : BitVec 32) : Fin 2 → Nat :=
  let c2_i32_50 : BitVec 32 := 2#32
  let c1_i32_49 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v82 : BitVec 32 := Scalar.subi c1_i32_49 v2
  let v83 : BitVec 32 := Scalar.muli c2_i32_50 v82
  let v84 : BitVec 32 := Scalar.addi c0_i32_51 v83
  let c4_i32_52 : BitVec 32 := 4#32
  let c0_i32_53 : BitVec 32 := 0#32
  let v85 : BitVec 1 := Scalar.cmpi .eq c4_i32_52 c0_i32_53
  let c1_i32_54 : BitVec 32 := 1#32
  let v86 : BitVec 32 := Scalar.select v85 c1_i32_54 c4_i32_52
  let v87 : BitVec 32 := Scalar.remsi v84 v86
  let c0_i32_56 : BitVec 32 := 0#32
  let v89 : BitVec 1 := Scalar.cmpi .slt v87 c0_i32_56
  let c0_i32_57 : BitVec 32 := 0#32
  let v90 : BitVec 1 := Scalar.cmpi .slt v86 c0_i32_57
  let v91 : BitVec 1 := Scalar.xori v89 v90
  let c0_i32_55 : BitVec 32 := 0#32
  let v88 : BitVec 1 := Scalar.cmpi .ne v87 c0_i32_55
  let v92 : BitVec 1 := Scalar.andi v91 v88
  let v93 : BitVec 32 := Scalar.addi v87 v86
  let v94 : BitVec 32 := Scalar.select v92 v93 v87
  let c128_i32 : BitVec 32 := 128#32
  let v95 : BitVec 32 := Scalar.muli v94 c128_i32
  let c0_i32_64 : BitVec 32 := 0#32
  ![v95.toNat, 0]
def k0_dev4 (d0 : Dev nD) : Nat :=
  let c0_i32_61 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_60 : BitVec 32 := 8#32
  let v96 : BitVec 32 := Scalar.muli v9 c8_i32_60
  let v97 : BitVec 32 := Scalar.addi c0_i32_61 v96
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v98 : BitVec 32 := Scalar.muli v5 c4_i32_62
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v100 : BitVec 32 := Scalar.muli v8 c1_i32_63
  let v101 : BitVec 32 := Scalar.addi v99 v100
  v101.toNat
def k0_dev5 (d0 : Dev nD) : Nat :=
  let c0_i32_79 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_78 : BitVec 32 := 8#32
  let v122 : BitVec 32 := Scalar.muli v9 c8_i32_78
  let v123 : BitVec 32 := Scalar.addi c0_i32_79 v122
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v124 : BitVec 32 := Scalar.muli v5 c4_i32_80
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v126 : BitVec 32 := Scalar.muli v8 c1_i32_81
  let v127 : BitVec 32 := Scalar.addi v125 v126
  v127.toNat
def k0_dev6 (d0 : Dev nD) : Nat :=
  let c0_i32_97 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_96 : BitVec 32 := 8#32
  let v148 : BitVec 32 := Scalar.muli v9 c8_i32_96
  let v149 : BitVec 32 := Scalar.addi c0_i32_97 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v150 : BitVec 32 := Scalar.muli v5 c4_i32_98
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v152 : BitVec 32 := Scalar.muli v8 c1_i32_99
  let v153 : BitVec 32 := Scalar.addi v151 v152
  v153.toNat
def k0_dev7 (d0 : Dev nD) : Nat :=
  let c0_i32_115 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_114 : BitVec 32 := 8#32
  let v174 : BitVec 32 := Scalar.muli v9 c8_i32_114
  let v175 : BitVec 32 := Scalar.addi c0_i32_115 v174
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_116 : BitVec 32 := 4#32
  let v176 : BitVec 32 := Scalar.muli v5 c4_i32_116
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v178 : BitVec 32 := Scalar.muli v8 c1_i32_117
  let v179 : BitVec 32 := Scalar.addi v177 v178
  v179.toNat
def k0_off3 (d0 : Dev nD) (c0_i32_129 : BitVec 32) : Fin 2 → Nat :=
  let c2_i32_128 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v196 : BitVec 32 := Scalar.muli c2_i32_128 v2
  let v197 : BitVec 32 := Scalar.addi c0_i32_129 v196
  let c4_i32_130 : BitVec 32 := 4#32
  let c0_i32_131 : BitVec 32 := 0#32
  let v198 : BitVec 1 := Scalar.cmpi .eq c4_i32_130 c0_i32_131
  let c1_i32_132 : BitVec 32 := 1#32
  let v199 : BitVec 32 := Scalar.select v198 c1_i32_132 c4_i32_130
  let v200 : BitVec 32 := Scalar.remsi v197 v199
  let c0_i32_134 : BitVec 32 := 0#32
  let v202 : BitVec 1 := Scalar.cmpi .slt v200 c0_i32_134
  let c0_i32_135 : BitVec 32 := 0#32
  let v203 : BitVec 1 := Scalar.cmpi .slt v199 c0_i32_135
  let v204 : BitVec 1 := Scalar.xori v202 v203
  let c0_i32_133 : BitVec 32 := 0#32
  let v201 : BitVec 1 := Scalar.cmpi .ne v200 c0_i32_133
  let v205 : BitVec 1 := Scalar.andi v204 v201
  let v206 : BitVec 32 := Scalar.addi v200 v199
  let v207 : BitVec 32 := Scalar.select v205 v206 v200
  let c128_i32_136 : BitVec 32 := 128#32
  let v208 : BitVec 32 := Scalar.muli v207 c128_i32_136
  let v209 : Index := Scalar.indexCast v208
  let c0_137 : Index := 0#32
  ![v209.toNat, 0]
def k0_off4 (d0 : Dev nD) (c0_i32_129 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c8_i32_139 : BitVec 32 := 8#32
  let c0_i32_140 : BitVec 32 := 0#32
  let v216 : BitVec 1 := Scalar.cmpi .eq c8_i32_139 c0_i32_140
  let c1_i32_141 : BitVec 32 := 1#32
  let v217 : BitVec 32 := Scalar.select v216 c1_i32_141 c8_i32_139
  let v218 : BitVec 32 := Scalar.remsi v12 v217
  let c0_i32_143 : BitVec 32 := 0#32
  let v220 : BitVec 1 := Scalar.cmpi .slt v218 c0_i32_143
  let c0_i32_144 : BitVec 32 := 0#32
  let v221 : BitVec 1 := Scalar.cmpi .slt v217 c0_i32_144
  let v222 : BitVec 1 := Scalar.xori v220 v221
  let c0_i32_142 : BitVec 32 := 0#32
  let v219 : BitVec 1 := Scalar.cmpi .ne v218 c0_i32_142
  let v223 : BitVec 1 := Scalar.andi v222 v219
  let v224 : BitVec 32 := Scalar.addi v218 v217
  let v225 : BitVec 32 := Scalar.select v223 v224 v218
  let c512_i32_145 : BitVec 32 := 512#32
  let v226 : BitVec 32 := Scalar.muli v225 c512_i32_145
  let c2_i32_128 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v196 : BitVec 32 := Scalar.muli c2_i32_128 v2
  let v197 : BitVec 32 := Scalar.addi c0_i32_129 v196
  let c4_i32_130 : BitVec 32 := 4#32
  let c0_i32_131 : BitVec 32 := 0#32
  let v198 : BitVec 1 := Scalar.cmpi .eq c4_i32_130 c0_i32_131
  let c1_i32_132 : BitVec 32 := 1#32
  let v199 : BitVec 32 := Scalar.select v198 c1_i32_132 c4_i32_130
  let v200 : BitVec 32 := Scalar.remsi v197 v199
  let c0_i32_134 : BitVec 32 := 0#32
  let v202 : BitVec 1 := Scalar.cmpi .slt v200 c0_i32_134
  let c0_i32_135 : BitVec 32 := 0#32
  let v203 : BitVec 1 := Scalar.cmpi .slt v199 c0_i32_135
  let v204 : BitVec 1 := Scalar.xori v202 v203
  let c0_i32_133 : BitVec 32 := 0#32
  let v201 : BitVec 1 := Scalar.cmpi .ne v200 c0_i32_133
  let v205 : BitVec 1 := Scalar.andi v204 v201
  let v206 : BitVec 32 := Scalar.addi v200 v199
  let v207 : BitVec 32 := Scalar.select v205 v206 v200
  let c128_i32_146 : BitVec 32 := 128#32
  let v227 : BitVec 32 := Scalar.muli v207 c128_i32_146
  let v228 : BitVec 32 := Scalar.addi v226 v227
  let v229 : Index := Scalar.indexCast v228
  let c0_147 : Index := 0#32
  ![v229.toNat, 0]
def k0_off5 (d0 : Dev nD) (c0_i32_129 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c8_i32_148 : BitVec 32 := 8#32
  let c0_i32_149 : BitVec 32 := 0#32
  let v233 : BitVec 1 := Scalar.cmpi .eq c8_i32_148 c0_i32_149
  let c1_i32_150 : BitVec 32 := 1#32
  let v234 : BitVec 32 := Scalar.select v233 c1_i32_150 c8_i32_148
  let v235 : BitVec 32 := Scalar.remsi v12 v234
  let c0_i32_152 : BitVec 32 := 0#32
  let v237 : BitVec 1 := Scalar.cmpi .slt v235 c0_i32_152
  let c0_i32_153 : BitVec 32 := 0#32
  let v238 : BitVec 1 := Scalar.cmpi .slt v234 c0_i32_153
  let v239 : BitVec 1 := Scalar.xori v237 v238
  let c0_i32_151 : BitVec 32 := 0#32
  let v236 : BitVec 1 := Scalar.cmpi .ne v235 c0_i32_151
  let v240 : BitVec 1 := Scalar.andi v239 v236
  let v241 : BitVec 32 := Scalar.addi v235 v234
  let v242 : BitVec 32 := Scalar.select v240 v241 v235
  let c512_i32_154 : BitVec 32 := 512#32
  let v243 : BitVec 32 := Scalar.muli v242 c512_i32_154
  let c2_i32_128 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v196 : BitVec 32 := Scalar.muli c2_i32_128 v2
  let v197 : BitVec 32 := Scalar.addi c0_i32_129 v196
  let c4_i32_130 : BitVec 32 := 4#32
  let c0_i32_131 : BitVec 32 := 0#32
  let v198 : BitVec 1 := Scalar.cmpi .eq c4_i32_130 c0_i32_131
  let c1_i32_132 : BitVec 32 := 1#32
  let v199 : BitVec 32 := Scalar.select v198 c1_i32_132 c4_i32_130
  let v200 : BitVec 32 := Scalar.remsi v197 v199
  let c0_i32_134 : BitVec 32 := 0#32
  let v202 : BitVec 1 := Scalar.cmpi .slt v200 c0_i32_134
  let c0_i32_135 : BitVec 32 := 0#32
  let v203 : BitVec 1 := Scalar.cmpi .slt v199 c0_i32_135
  let v204 : BitVec 1 := Scalar.xori v202 v203
  let c0_i32_133 : BitVec 32 := 0#32
  let v201 : BitVec 1 := Scalar.cmpi .ne v200 c0_i32_133
  let v205 : BitVec 1 := Scalar.andi v204 v201
  let v206 : BitVec 32 := Scalar.addi v200 v199
  let v207 : BitVec 32 := Scalar.select v205 v206 v200
  let c128_i32_155 : BitVec 32 := 128#32
  let v244 : BitVec 32 := Scalar.muli v207 c128_i32_155
  let v245 : BitVec 32 := Scalar.addi v243 v244
  let c0_i32_162 : BitVec 32 := 0#32
  ![v245.toNat, 0]
def k0_dev8 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v246 : BitVec 32 := Scalar.muli v2 c8_i32_158
  let v247 : BitVec 32 := Scalar.addi c0_i32_159 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_160 : BitVec 32 := 4#32
  let v248 : BitVec 32 := Scalar.muli v25 c4_i32_160
  let v249 : BitVec 32 := Scalar.addi v247 v248
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_161 : BitVec 32 := 1#32
  let v250 : BitVec 32 := Scalar.muli v28 c1_i32_161
  let v251 : BitVec 32 := Scalar.addi v249 v250
  v251.toNat
def k0_dev9 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v271 : BitVec 32 := Scalar.muli v2 c8_i32_174
  let v272 : BitVec 32 := Scalar.addi c0_i32_175 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_176 : BitVec 32 := 4#32
  let v273 : BitVec 32 := Scalar.muli v41 c4_i32_176
  let v274 : BitVec 32 := Scalar.addi v272 v273
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_177 : BitVec 32 := 1#32
  let v275 : BitVec 32 := Scalar.muli v44 c1_i32_177
  let v276 : BitVec 32 := Scalar.addi v274 v275
  v276.toNat
def k0_dev10 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v343 : BitVec 32 := Scalar.muli v2 c8_i32_218
  let v344 : BitVec 32 := Scalar.addi c0_i32_219 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_220 : BitVec 32 := 4#32
  let v345 : BitVec 32 := Scalar.muli v25 c4_i32_220
  let v346 : BitVec 32 := Scalar.addi v344 v345
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_221 : BitVec 32 := 1#32
  let v347 : BitVec 32 := Scalar.muli v28 c1_i32_221
  let v348 : BitVec 32 := Scalar.addi v346 v347
  v348.toNat
def k0_dev11 (d0 : Dev nD) : Nat :=
  let c0_i32_235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_234 : BitVec 32 := 8#32
  let v368 : BitVec 32 := Scalar.muli v2 c8_i32_234
  let v369 : BitVec 32 := Scalar.addi c0_i32_235 v368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_236 : BitVec 32 := 4#32
  let v370 : BitVec 32 := Scalar.muli v41 c4_i32_236
  let v371 : BitVec 32 := Scalar.addi v369 v370
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_237 : BitVec 32 := 1#32
  let v372 : BitVec 32 := Scalar.muli v44 c1_i32_237
  let v373 : BitVec 32 := Scalar.addi v371 v372
  v373.toNat
def k0_dev12 (d0 : Dev nD) : Nat :=
  let c0_i32_279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_278 : BitVec 32 := 8#32
  let v440 : BitVec 32 := Scalar.muli v2 c8_i32_278
  let v441 : BitVec 32 := Scalar.addi c0_i32_279 v440
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_280 : BitVec 32 := 4#32
  let v442 : BitVec 32 := Scalar.muli v25 c4_i32_280
  let v443 : BitVec 32 := Scalar.addi v441 v442
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_281 : BitVec 32 := 1#32
  let v444 : BitVec 32 := Scalar.muli v28 c1_i32_281
  let v445 : BitVec 32 := Scalar.addi v443 v444
  v445.toNat
def k0_dev13 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v465 : BitVec 32 := Scalar.muli v2 c8_i32_294
  let v466 : BitVec 32 := Scalar.addi c0_i32_295 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_296 : BitVec 32 := 4#32
  let v467 : BitVec 32 := Scalar.muli v41 c4_i32_296
  let v468 : BitVec 32 := Scalar.addi v466 v467
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_297 : BitVec 32 := 1#32
  let v469 : BitVec 32 := Scalar.muli v44 c1_i32_297
  let v470 : BitVec 32 := Scalar.addi v468 v469
  v470.toNat
def k0_dev14 (d0 : Dev nD) : Nat :=
  let c0_i32_339 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_338 : BitVec 32 := 8#32
  let v537 : BitVec 32 := Scalar.muli v2 c8_i32_338
  let v538 : BitVec 32 := Scalar.addi c0_i32_339 v537
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_340 : BitVec 32 := 4#32
  let v539 : BitVec 32 := Scalar.muli v25 c4_i32_340
  let v540 : BitVec 32 := Scalar.addi v538 v539
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_341 : BitVec 32 := 1#32
  let v541 : BitVec 32 := Scalar.muli v28 c1_i32_341
  let v542 : BitVec 32 := Scalar.addi v540 v541
  v542.toNat
def k0_dev15 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v562 : BitVec 32 := Scalar.muli v2 c8_i32_354
  let v563 : BitVec 32 := Scalar.addi c0_i32_355 v562
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_356 : BitVec 32 := 4#32
  let v564 : BitVec 32 := Scalar.muli v41 c4_i32_356
  let v565 : BitVec 32 := Scalar.addi v563 v564
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_357 : BitVec 32 := 1#32
  let v566 : BitVec 32 := Scalar.muli v44 c1_i32_357
  let v567 : BitVec 32 := Scalar.addi v565 v566
  v567.toNat
def k0_off6 (d0 : Dev nD) (c0_i32_378 : BitVec 32) (c0_i32_380 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_377 : BitVec 32 := 1#32
  let v600 : BitVec 32 := Scalar.subi v12 c1_i32_377
  let v601 : BitVec 32 := Scalar.subi v600 c0_i32_378
  let c8_i32_387 : BitVec 32 := 8#32
  let c0_i32_388 : BitVec 32 := 0#32
  let v614 : BitVec 1 := Scalar.cmpi .eq c8_i32_387 c0_i32_388
  let c1_i32_389 : BitVec 32 := 1#32
  let v615 : BitVec 32 := Scalar.select v614 c1_i32_389 c8_i32_387
  let v616 : BitVec 32 := Scalar.remsi v601 v615
  let c0_i32_391 : BitVec 32 := 0#32
  let v618 : BitVec 1 := Scalar.cmpi .slt v616 c0_i32_391
  let c0_i32_392 : BitVec 32 := 0#32
  let v619 : BitVec 1 := Scalar.cmpi .slt v615 c0_i32_392
  let v620 : BitVec 1 := Scalar.xori v618 v619
  let c0_i32_390 : BitVec 32 := 0#32
  let v617 : BitVec 1 := Scalar.cmpi .ne v616 c0_i32_390
  let v621 : BitVec 1 := Scalar.andi v620 v617
  let v622 : BitVec 32 := Scalar.addi v616 v615
  let v623 : BitVec 32 := Scalar.select v621 v622 v616
  let c512_i32_393 : BitVec 32 := 512#32
  let v624 : BitVec 32 := Scalar.muli v623 c512_i32_393
  let c2_i32_379 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v602 : BitVec 32 := Scalar.muli c2_i32_379 v2
  let v603 : BitVec 32 := Scalar.addi c0_i32_380 v602
  let c4_i32_381 : BitVec 32 := 4#32
  let c0_i32_382 : BitVec 32 := 0#32
  let v604 : BitVec 1 := Scalar.cmpi .eq c4_i32_381 c0_i32_382
  let c1_i32_383 : BitVec 32 := 1#32
  let v605 : BitVec 32 := Scalar.select v604 c1_i32_383 c4_i32_381
  let v606 : BitVec 32 := Scalar.remsi v603 v605
  let c0_i32_385 : BitVec 32 := 0#32
  let v608 : BitVec 1 := Scalar.cmpi .slt v606 c0_i32_385
  let c0_i32_386 : BitVec 32 := 0#32
  let v609 : BitVec 1 := Scalar.cmpi .slt v605 c0_i32_386
  let v610 : BitVec 1 := Scalar.xori v608 v609
  let c0_i32_384 : BitVec 32 := 0#32
  let v607 : BitVec 1 := Scalar.cmpi .ne v606 c0_i32_384
  let v611 : BitVec 1 := Scalar.andi v610 v607
  let v612 : BitVec 32 := Scalar.addi v606 v605
  let v613 : BitVec 32 := Scalar.select v611 v612 v606
  let c128_i32_394 : BitVec 32 := 128#32
  let v625 : BitVec 32 := Scalar.muli v613 c128_i32_394
  let v626 : BitVec 32 := Scalar.addi v624 v625
  let c0_i32_401 : BitVec 32 := 0#32
  ![v626.toNat, 0]
def k0_off6_at (r : Fin 12) : BitVec 32 × BitVec 32 :=
  if r.val < 6 then
    if r.val < 3 then
      if r.val < 1 then
        (0#32, 0#32)
      else
        if r.val < 2 then
          (0#32, 1#32)
        else
          (0#32, 2#32)
    else
      if r.val < 4 then
        (0#32, 3#32)
      else
        if r.val < 5 then
          (1#32, 0#32)
        else
          (1#32, 1#32)
  else
    if r.val < 9 then
      if r.val < 7 then
        (1#32, 2#32)
      else
        if r.val < 8 then
          (1#32, 3#32)
        else
          (2#32, 0#32)
    else
      if r.val < 10 then
        (2#32, 1#32)
      else
        if r.val < 11 then
          (3#32, 0#32)
        else
          (3#32, 1#32)
def k0_dev16 (d0 : Dev nD) : Nat :=
  let c0_i32_422 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_421 : BitVec 32 := 8#32
  let v662 : BitVec 32 := Scalar.muli v2 c8_i32_421
  let v663 : BitVec 32 := Scalar.addi c0_i32_422 v662
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_423 : BitVec 32 := 4#32
  let v664 : BitVec 32 := Scalar.muli v25 c4_i32_423
  let v665 : BitVec 32 := Scalar.addi v663 v664
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_424 : BitVec 32 := 1#32
  let v666 : BitVec 32 := Scalar.muli v28 c1_i32_424
  let v667 : BitVec 32 := Scalar.addi v665 v666
  v667.toNat
def k0_dev17 (d0 : Dev nD) : Nat :=
  let c0_i32_472 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_471 : BitVec 32 := 8#32
  let v736 : BitVec 32 := Scalar.muli v2 c8_i32_471
  let v737 : BitVec 32 := Scalar.addi c0_i32_472 v736
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_473 : BitVec 32 := 4#32
  let v738 : BitVec 32 := Scalar.muli v25 c4_i32_473
  let v739 : BitVec 32 := Scalar.addi v737 v738
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_474 : BitVec 32 := 1#32
  let v740 : BitVec 32 := Scalar.muli v28 c1_i32_474
  let v741 : BitVec 32 := Scalar.addi v739 v740
  v741.toNat
def k0_off7 (d0 : Dev nD) (c0_i32_478 : BitVec 32) (c2_i32_480 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_477 : BitVec 32 := 1#32
  let v748 : BitVec 32 := Scalar.addi v12 c1_i32_477
  let v749 : BitVec 32 := Scalar.addi v748 c0_i32_478
  let c8_i32_487 : BitVec 32 := 8#32
  let c0_i32_488 : BitVec 32 := 0#32
  let v762 : BitVec 1 := Scalar.cmpi .eq c8_i32_487 c0_i32_488
  let c1_i32_489 : BitVec 32 := 1#32
  let v763 : BitVec 32 := Scalar.select v762 c1_i32_489 c8_i32_487
  let v764 : BitVec 32 := Scalar.remsi v749 v763
  let c0_i32_491 : BitVec 32 := 0#32
  let v766 : BitVec 1 := Scalar.cmpi .slt v764 c0_i32_491
  let c0_i32_492 : BitVec 32 := 0#32
  let v767 : BitVec 1 := Scalar.cmpi .slt v763 c0_i32_492
  let v768 : BitVec 1 := Scalar.xori v766 v767
  let c0_i32_490 : BitVec 32 := 0#32
  let v765 : BitVec 1 := Scalar.cmpi .ne v764 c0_i32_490
  let v769 : BitVec 1 := Scalar.andi v768 v765
  let v770 : BitVec 32 := Scalar.addi v764 v763
  let v771 : BitVec 32 := Scalar.select v769 v770 v764
  let c512_i32_493 : BitVec 32 := 512#32
  let v772 : BitVec 32 := Scalar.muli v771 c512_i32_493
  let c2_i32_479 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v750 : BitVec 32 := Scalar.muli c2_i32_479 v2
  let v751 : BitVec 32 := Scalar.addi c2_i32_480 v750
  let c4_i32_481 : BitVec 32 := 4#32
  let c0_i32_482 : BitVec 32 := 0#32
  let v752 : BitVec 1 := Scalar.cmpi .eq c4_i32_481 c0_i32_482
  let c1_i32_483 : BitVec 32 := 1#32
  let v753 : BitVec 32 := Scalar.select v752 c1_i32_483 c4_i32_481
  let v754 : BitVec 32 := Scalar.remsi v751 v753
  let c0_i32_485 : BitVec 32 := 0#32
  let v756 : BitVec 1 := Scalar.cmpi .slt v754 c0_i32_485
  let c0_i32_486 : BitVec 32 := 0#32
  let v757 : BitVec 1 := Scalar.cmpi .slt v753 c0_i32_486
  let v758 : BitVec 1 := Scalar.xori v756 v757
  let c0_i32_484 : BitVec 32 := 0#32
  let v755 : BitVec 1 := Scalar.cmpi .ne v754 c0_i32_484
  let v759 : BitVec 1 := Scalar.andi v758 v755
  let v760 : BitVec 32 := Scalar.addi v754 v753
  let v761 : BitVec 32 := Scalar.select v759 v760 v754
  let c128_i32_494 : BitVec 32 := 128#32
  let v773 : BitVec 32 := Scalar.muli v761 c128_i32_494
  let v774 : BitVec 32 := Scalar.addi v772 v773
  let c0_i32_501 : BitVec 32 := 0#32
  ![v774.toNat, 0]
def k0_off7_at (r : Fin 12) : BitVec 32 × BitVec 32 :=
  if r.val < 6 then
    if r.val < 3 then
      if r.val < 1 then
        (0#32, 2#32)
      else
        if r.val < 2 then
          (0#32, 3#32)
        else
          (0#32, 0#32)
    else
      if r.val < 4 then
        (0#32, 1#32)
      else
        if r.val < 5 then
          (1#32, 2#32)
        else
          (1#32, 3#32)
  else
    if r.val < 9 then
      if r.val < 7 then
        (1#32, 0#32)
      else
        if r.val < 8 then
          (1#32, 1#32)
        else
          (2#32, 2#32)
    else
      if r.val < 10 then
        (2#32, 3#32)
      else
        if r.val < 11 then
          (3#32, 2#32)
        else
          (3#32, 3#32)
def k0_dev18 (d0 : Dev nD) : Nat :=
  let c0_i32_522 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_521 : BitVec 32 := 8#32
  let v810 : BitVec 32 := Scalar.muli v2 c8_i32_521
  let v811 : BitVec 32 := Scalar.addi c0_i32_522 v810
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_523 : BitVec 32 := 4#32
  let v812 : BitVec 32 := Scalar.muli v41 c4_i32_523
  let v813 : BitVec 32 := Scalar.addi v811 v812
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_524 : BitVec 32 := 1#32
  let v814 : BitVec 32 := Scalar.muli v44 c1_i32_524
  let v815 : BitVec 32 := Scalar.addi v813 v814
  v815.toNat
def k0_dev19 (d0 : Dev nD) : Nat :=
  let c0_i32_572 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_571 : BitVec 32 := 8#32
  let v884 : BitVec 32 := Scalar.muli v2 c8_i32_571
  let v885 : BitVec 32 := Scalar.addi c0_i32_572 v884
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_573 : BitVec 32 := 4#32
  let v886 : BitVec 32 := Scalar.muli v41 c4_i32_573
  let v887 : BitVec 32 := Scalar.addi v885 v886
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_574 : BitVec 32 := 1#32
  let v888 : BitVec 32 := Scalar.muli v44 c1_i32_574
  let v889 : BitVec 32 := Scalar.addi v887 v888
  v889.toNat
def k0_dev20 (d0 : Dev nD) : Nat :=
  let c0_i32_622 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_621 : BitVec 32 := 8#32
  let v958 : BitVec 32 := Scalar.muli v2 c8_i32_621
  let v959 : BitVec 32 := Scalar.addi c0_i32_622 v958
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_623 : BitVec 32 := 4#32
  let v960 : BitVec 32 := Scalar.muli v25 c4_i32_623
  let v961 : BitVec 32 := Scalar.addi v959 v960
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_624 : BitVec 32 := 1#32
  let v962 : BitVec 32 := Scalar.muli v28 c1_i32_624
  let v963 : BitVec 32 := Scalar.addi v961 v962
  v963.toNat
def k0_dev21 (d0 : Dev nD) : Nat :=
  let c0_i32_672 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_671 : BitVec 32 := 8#32
  let v1032 : BitVec 32 := Scalar.muli v2 c8_i32_671
  let v1033 : BitVec 32 := Scalar.addi c0_i32_672 v1032
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_673 : BitVec 32 := 4#32
  let v1034 : BitVec 32 := Scalar.muli v25 c4_i32_673
  let v1035 : BitVec 32 := Scalar.addi v1033 v1034
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_674 : BitVec 32 := 1#32
  let v1036 : BitVec 32 := Scalar.muli v28 c1_i32_674
  let v1037 : BitVec 32 := Scalar.addi v1035 v1036
  v1037.toNat
def k0_dev22 (d0 : Dev nD) : Nat :=
  let c0_i32_722 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_721 : BitVec 32 := 8#32
  let v1106 : BitVec 32 := Scalar.muli v2 c8_i32_721
  let v1107 : BitVec 32 := Scalar.addi c0_i32_722 v1106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_723 : BitVec 32 := 4#32
  let v1108 : BitVec 32 := Scalar.muli v41 c4_i32_723
  let v1109 : BitVec 32 := Scalar.addi v1107 v1108
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_724 : BitVec 32 := 1#32
  let v1110 : BitVec 32 := Scalar.muli v44 c1_i32_724
  let v1111 : BitVec 32 := Scalar.addi v1109 v1110
  v1111.toNat
def k0_dev23 (d0 : Dev nD) : Nat :=
  let c0_i32_772 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_771 : BitVec 32 := 8#32
  let v1180 : BitVec 32 := Scalar.muli v2 c8_i32_771
  let v1181 : BitVec 32 := Scalar.addi c0_i32_772 v1180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_773 : BitVec 32 := 4#32
  let v1182 : BitVec 32 := Scalar.muli v41 c4_i32_773
  let v1183 : BitVec 32 := Scalar.addi v1181 v1182
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_774 : BitVec 32 := 1#32
  let v1184 : BitVec 32 := Scalar.muli v44 c1_i32_774
  let v1185 : BitVec 32 := Scalar.addi v1183 v1184
  v1185.toNat
def k0_off8 (d0 : Dev nD) (c1_i32_777 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v1192 : BitVec 32 := Scalar.subi v12 c1_i32_777
  let c8_i32_785 : BitVec 32 := 8#32
  let c0_i32_786 : BitVec 32 := 0#32
  let v1204 : BitVec 1 := Scalar.cmpi .eq c8_i32_785 c0_i32_786
  let c1_i32_787 : BitVec 32 := 1#32
  let v1205 : BitVec 32 := Scalar.select v1204 c1_i32_787 c8_i32_785
  let v1206 : BitVec 32 := Scalar.remsi v1192 v1205
  let c0_i32_789 : BitVec 32 := 0#32
  let v1208 : BitVec 1 := Scalar.cmpi .slt v1206 c0_i32_789
  let c0_i32_790 : BitVec 32 := 0#32
  let v1209 : BitVec 1 := Scalar.cmpi .slt v1205 c0_i32_790
  let v1210 : BitVec 1 := Scalar.xori v1208 v1209
  let c0_i32_788 : BitVec 32 := 0#32
  let v1207 : BitVec 1 := Scalar.cmpi .ne v1206 c0_i32_788
  let v1211 : BitVec 1 := Scalar.andi v1210 v1207
  let v1212 : BitVec 32 := Scalar.addi v1206 v1205
  let v1213 : BitVec 32 := Scalar.select v1211 v1212 v1206
  let c512_i32_791 : BitVec 32 := 512#32
  let v1214 : BitVec 32 := Scalar.muli v1213 c512_i32_791
  let c0_i32_793 : BitVec 32 := 0#32
  ![v1214.toNat, 0]
def k0_off9 (d0 : Dev nD) (c1_i32_795 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v1219 : BitVec 32 := Scalar.addi v12 c1_i32_795
  let c8_i32_803 : BitVec 32 := 8#32
  let c0_i32_804 : BitVec 32 := 0#32
  let v1231 : BitVec 1 := Scalar.cmpi .eq c8_i32_803 c0_i32_804
  let c1_i32_805 : BitVec 32 := 1#32
  let v1232 : BitVec 32 := Scalar.select v1231 c1_i32_805 c8_i32_803
  let v1233 : BitVec 32 := Scalar.remsi v1219 v1232
  let c0_i32_807 : BitVec 32 := 0#32
  let v1235 : BitVec 1 := Scalar.cmpi .slt v1233 c0_i32_807
  let c0_i32_808 : BitVec 32 := 0#32
  let v1236 : BitVec 1 := Scalar.cmpi .slt v1232 c0_i32_808
  let v1237 : BitVec 1 := Scalar.xori v1235 v1236
  let c0_i32_806 : BitVec 32 := 0#32
  let v1234 : BitVec 1 := Scalar.cmpi .ne v1233 c0_i32_806
  let v1238 : BitVec 1 := Scalar.andi v1237 v1234
  let v1239 : BitVec 32 := Scalar.addi v1233 v1232
  let v1240 : BitVec 32 := Scalar.select v1238 v1239 v1233
  let c512_i32_809 : BitVec 32 := 512#32
  let v1241 : BitVec 32 := Scalar.muli v1240 c512_i32_809
  let c0_i32_811 : BitVec 32 := 0#32
  ![v1241.toNat, 0]
def k0_dev24 (d0 : Dev nD) : Nat :=
  let c0_i32_858 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_857 : BitVec 32 := 8#32
  let v1308 : BitVec 32 := Scalar.muli v2 c8_i32_857
  let v1309 : BitVec 32 := Scalar.addi c0_i32_858 v1308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_859 : BitVec 32 := 4#32
  let v1310 : BitVec 32 := Scalar.muli v25 c4_i32_859
  let v1311 : BitVec 32 := Scalar.addi v1309 v1310
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_860 : BitVec 32 := 1#32
  let v1312 : BitVec 32 := Scalar.muli v28 c1_i32_860
  let v1313 : BitVec 32 := Scalar.addi v1311 v1312
  v1313.toNat
def k0_dev25 (d0 : Dev nD) : Nat :=
  let c0_i32_908 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_907 : BitVec 32 := 8#32
  let v1382 : BitVec 32 := Scalar.muli v2 c8_i32_907
  let v1383 : BitVec 32 := Scalar.addi c0_i32_908 v1382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_909 : BitVec 32 := 4#32
  let v1384 : BitVec 32 := Scalar.muli v25 c4_i32_909
  let v1385 : BitVec 32 := Scalar.addi v1383 v1384
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_910 : BitVec 32 := 1#32
  let v1386 : BitVec 32 := Scalar.muli v28 c1_i32_910
  let v1387 : BitVec 32 := Scalar.addi v1385 v1386
  v1387.toNat
def k0_dev26 (d0 : Dev nD) : Nat :=
  let c0_i32_958 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_957 : BitVec 32 := 8#32
  let v1456 : BitVec 32 := Scalar.muli v2 c8_i32_957
  let v1457 : BitVec 32 := Scalar.addi c0_i32_958 v1456
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_959 : BitVec 32 := 4#32
  let v1458 : BitVec 32 := Scalar.muli v41 c4_i32_959
  let v1459 : BitVec 32 := Scalar.addi v1457 v1458
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_960 : BitVec 32 := 1#32
  let v1460 : BitVec 32 := Scalar.muli v44 c1_i32_960
  let v1461 : BitVec 32 := Scalar.addi v1459 v1460
  v1461.toNat
def k0_dev27 (d0 : Dev nD) : Nat :=
  let c0_i32_1008 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1007 : BitVec 32 := 8#32
  let v1530 : BitVec 32 := Scalar.muli v2 c8_i32_1007
  let v1531 : BitVec 32 := Scalar.addi c0_i32_1008 v1530
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_1009 : BitVec 32 := 4#32
  let v1532 : BitVec 32 := Scalar.muli v41 c4_i32_1009
  let v1533 : BitVec 32 := Scalar.addi v1531 v1532
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_1010 : BitVec 32 := 1#32
  let v1534 : BitVec 32 := Scalar.muli v44 c1_i32_1010
  let v1535 : BitVec 32 := Scalar.addi v1533 v1534
  v1535.toNat
def k0_dev28 (d0 : Dev nD) : Nat :=
  let c0_i32_1198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1197 : BitVec 32 := 8#32
  let v1806 : BitVec 32 := Scalar.muli v2 c8_i32_1197
  let v1807 : BitVec 32 := Scalar.addi c0_i32_1198 v1806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_1199 : BitVec 32 := 4#32
  let v1808 : BitVec 32 := Scalar.muli v25 c4_i32_1199
  let v1809 : BitVec 32 := Scalar.addi v1807 v1808
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_1200 : BitVec 32 := 1#32
  let v1810 : BitVec 32 := Scalar.muli v28 c1_i32_1200
  let v1811 : BitVec 32 := Scalar.addi v1809 v1810
  v1811.toNat
def k0_dev29 (d0 : Dev nD) : Nat :=
  let c0_i32_1222 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1221 : BitVec 32 := 8#32
  let v1843 : BitVec 32 := Scalar.muli v9 c8_i32_1221
  let v1844 : BitVec 32 := Scalar.addi c0_i32_1222 v1843
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1223 : BitVec 32 := 4#32
  let v1845 : BitVec 32 := Scalar.muli v5 c4_i32_1223
  let v1846 : BitVec 32 := Scalar.addi v1844 v1845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1224 : BitVec 32 := 1#32
  let v1847 : BitVec 32 := Scalar.muli v8 c1_i32_1224
  let v1848 : BitVec 32 := Scalar.addi v1846 v1847
  v1848.toNat
def k0_dev30 (d0 : Dev nD) : Nat :=
  let c0_i32_1272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1271 : BitVec 32 := 8#32
  let v1917 : BitVec 32 := Scalar.muli v2 c8_i32_1271
  let v1918 : BitVec 32 := Scalar.addi c0_i32_1272 v1917
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .sge v23 c4_i32_10
  let v25 : BitVec 32 := Scalar.extui v24
  let c4_i32_1273 : BitVec 32 := 4#32
  let v1919 : BitVec 32 := Scalar.muli v25 c4_i32_1273
  let v1920 : BitVec 32 := Scalar.addi v1918 v1919
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c1_i32_1274 : BitVec 32 := 1#32
  let v1921 : BitVec 32 := Scalar.muli v28 c1_i32_1274
  let v1922 : BitVec 32 := Scalar.addi v1920 v1921
  v1922.toNat
def k0_dev31 (d0 : Dev nD) : Nat :=
  let c0_i32_1296 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1295 : BitVec 32 := 8#32
  let v1954 : BitVec 32 := Scalar.muli v9 c8_i32_1295
  let v1955 : BitVec 32 := Scalar.addi c0_i32_1296 v1954
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1297 : BitVec 32 := 4#32
  let v1956 : BitVec 32 := Scalar.muli v5 c4_i32_1297
  let v1957 : BitVec 32 := Scalar.addi v1955 v1956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1298 : BitVec 32 := 1#32
  let v1958 : BitVec 32 := Scalar.muli v8 c1_i32_1298
  let v1959 : BitVec 32 := Scalar.addi v1957 v1958
  v1959.toNat
def k0_dev32 (d0 : Dev nD) : Nat :=
  let c0_i32_1346 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1345 : BitVec 32 := 8#32
  let v2028 : BitVec 32 := Scalar.muli v2 c8_i32_1345
  let v2029 : BitVec 32 := Scalar.addi c0_i32_1346 v2028
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_1347 : BitVec 32 := 4#32
  let v2030 : BitVec 32 := Scalar.muli v41 c4_i32_1347
  let v2031 : BitVec 32 := Scalar.addi v2029 v2030
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_1348 : BitVec 32 := 1#32
  let v2032 : BitVec 32 := Scalar.muli v44 c1_i32_1348
  let v2033 : BitVec 32 := Scalar.addi v2031 v2032
  v2033.toNat
def k0_dev33 (d0 : Dev nD) : Nat :=
  let c0_i32_1370 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1369 : BitVec 32 := 8#32
  let v2065 : BitVec 32 := Scalar.muli v9 c8_i32_1369
  let v2066 : BitVec 32 := Scalar.addi c0_i32_1370 v2065
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1371 : BitVec 32 := 4#32
  let v2067 : BitVec 32 := Scalar.muli v5 c4_i32_1371
  let v2068 : BitVec 32 := Scalar.addi v2066 v2067
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1372 : BitVec 32 := 1#32
  let v2069 : BitVec 32 := Scalar.muli v8 c1_i32_1372
  let v2070 : BitVec 32 := Scalar.addi v2068 v2069
  v2070.toNat
def k0_dev34 (d0 : Dev nD) : Nat :=
  let c0_i32_1420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1419 : BitVec 32 := 8#32
  let v2139 : BitVec 32 := Scalar.muli v2 c8_i32_1419
  let v2140 : BitVec 32 := Scalar.addi c0_i32_1420 v2139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_13 : BitVec 32 := 1#32
  let v29 : BitVec 32 := Scalar.subi v12 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .sge v39 c4_i32_20
  let v41 : BitVec 32 := Scalar.extui v40
  let c4_i32_1421 : BitVec 32 := 4#32
  let v2141 : BitVec 32 := Scalar.muli v41 c4_i32_1421
  let v2142 : BitVec 32 := Scalar.addi v2140 v2141
  let c4_i32_21 : BitVec 32 := 4#32
  let v42 : BitVec 1 := Scalar.cmpi .slt v39 c4_i32_21
  let c7_i32_22 : BitVec 32 := 7#32
  let v43 : BitVec 32 := Scalar.subi c7_i32_22 v39
  let v44 : BitVec 32 := Scalar.select v42 v39 v43
  let c1_i32_1422 : BitVec 32 := 1#32
  let v2143 : BitVec 32 := Scalar.muli v44 c1_i32_1422
  let v2144 : BitVec 32 := Scalar.addi v2142 v2143
  v2144.toNat
def k0_dev35 (d0 : Dev nD) : Nat :=
  let c0_i32_1444 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1443 : BitVec 32 := 8#32
  let v2176 : BitVec 32 := Scalar.muli v9 c8_i32_1443
  let v2177 : BitVec 32 := Scalar.addi c0_i32_1444 v2176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1445 : BitVec 32 := 4#32
  let v2178 : BitVec 32 := Scalar.muli v5 c4_i32_1445
  let v2179 : BitVec 32 := Scalar.addi v2177 v2178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1446 : BitVec 32 := 1#32
  let v2180 : BitVec 32 := Scalar.muli v8 c1_i32_1446
  let v2181 : BitVec 32 := Scalar.addi v2179 v2180
  v2181.toNat
def k0_off10 (d0 : Dev nD) (c_m3_i32 : BitVec 32) (c2_i32_1571 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v2363 : BitVec 32 := Scalar.addi v12 c_m3_i32
  let c8_i32_1578 : BitVec 32 := 8#32
  let c0_i32_1579 : BitVec 32 := 0#32
  let v2376 : BitVec 1 := Scalar.cmpi .eq c8_i32_1578 c0_i32_1579
  let c1_i32_1580 : BitVec 32 := 1#32
  let v2377 : BitVec 32 := Scalar.select v2376 c1_i32_1580 c8_i32_1578
  let v2378 : BitVec 32 := Scalar.remsi v2363 v2377
  let c0_i32_1582 : BitVec 32 := 0#32
  let v2380 : BitVec 1 := Scalar.cmpi .slt v2378 c0_i32_1582
  let c0_i32_1583 : BitVec 32 := 0#32
  let v2381 : BitVec 1 := Scalar.cmpi .slt v2377 c0_i32_1583
  let v2382 : BitVec 1 := Scalar.xori v2380 v2381
  let c0_i32_1581 : BitVec 32 := 0#32
  let v2379 : BitVec 1 := Scalar.cmpi .ne v2378 c0_i32_1581
  let v2383 : BitVec 1 := Scalar.andi v2382 v2379
  let v2384 : BitVec 32 := Scalar.addi v2378 v2377
  let v2385 : BitVec 32 := Scalar.select v2383 v2384 v2378
  let c512_i32_1584 : BitVec 32 := 512#32
  let v2386 : BitVec 32 := Scalar.muli v2385 c512_i32_1584
  let c2_i32_1570 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2364 : BitVec 32 := Scalar.muli c2_i32_1570 v2
  let v2365 : BitVec 32 := Scalar.addi c2_i32_1571 v2364
  let c4_i32_1572 : BitVec 32 := 4#32
  let c0_i32_1573 : BitVec 32 := 0#32
  let v2366 : BitVec 1 := Scalar.cmpi .eq c4_i32_1572 c0_i32_1573
  let c1_i32_1574 : BitVec 32 := 1#32
  let v2367 : BitVec 32 := Scalar.select v2366 c1_i32_1574 c4_i32_1572
  let v2368 : BitVec 32 := Scalar.remsi v2365 v2367
  let c0_i32_1576 : BitVec 32 := 0#32
  let v2370 : BitVec 1 := Scalar.cmpi .slt v2368 c0_i32_1576
  let c0_i32_1577 : BitVec 32 := 0#32
  let v2371 : BitVec 1 := Scalar.cmpi .slt v2367 c0_i32_1577
  let v2372 : BitVec 1 := Scalar.xori v2370 v2371
  let c0_i32_1575 : BitVec 32 := 0#32
  let v2369 : BitVec 1 := Scalar.cmpi .ne v2368 c0_i32_1575
  let v2373 : BitVec 1 := Scalar.andi v2372 v2369
  let v2374 : BitVec 32 := Scalar.addi v2368 v2367
  let v2375 : BitVec 32 := Scalar.select v2373 v2374 v2368
  let c128_i32_1585 : BitVec 32 := 128#32
  let v2387 : BitVec 32 := Scalar.muli v2375 c128_i32_1585
  let v2388 : BitVec 32 := Scalar.addi v2386 v2387
  let c0_i32_1592 : BitVec 32 := 0#32
  ![v2388.toNat, 0]
def k0_off10_at (r : Fin 4) : BitVec 32 × BitVec 32 :=
  if r.val < 2 then
    if r.val < 1 then
      (4294967293#32, 2#32)
    else
      (4294967293#32, 3#32)
  else
    if r.val < 3 then
      (3#32, 0#32)
    else
      (3#32, 1#32)
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-
# `Steps`: the kernel body as a list of steps

The body is one straight line of transfers, signals, waits and vector accesses. It is read here as a list of
`Step`s, and `cc0_body_run` says that the printed body is the run of that list.

A transfer carries a number `t : Fin 32`, read as `t = 4 κ + l` with a stage `κ : Fin 8` and a lane `l : Fin 4`.
Stage 0 is the exchange of the chunk with the partner device. Every other transfer fills the block `(κ, l)` of
the receiver's gathering buffer, and no other transfer fills it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.SL.Sem

variable {F : FTy → Type} [FloatOps F]

/-! ## The buffers -/

/-- The argument. -/
abbrev mX : Memref sig .tc .hbm S4096x1024 .f32 := Memref.whole main_arg0
/-- The result. -/
abbrev mO : Memref sig .tc .hbm S4096x1024 .bf16 := Memref.whole main_v1
/-- The gathering buffer. -/
abbrev mG : Memref sig .tc .vmem S4096x1024 .bf16 := Memref.whole cc0_scratch0
/-- The own chunk. -/
abbrev mC : Memref sig .tc .vmem S512x1024 .f32 := Memref.whole cc0_scratch1
/-- The own chunk, rounded. -/
abbrev mS : Memref sig .tc .vmem S512x1024 .bf16 := Memref.whole cc0_scratch2
/-- The partner's chunk, rounded. -/
abbrev mP : Memref sig .tc .vmem S512x1024 .bf16 := Memref.whole cc0_scratch3

/-! ## The names the printed text uses -/

/-- The printed names of a block of the gathering buffer. -/
inductive Blk where
  | w5 (l : Fin 4)
  | w6 (r : Fin 12)
  | w7 (r : Fin 12)
  | w10 (r : Fin 4)
deriving DecidableEq

/-- The offset a block's name stands for on device `d`. -/
def Blk.off (d : Dev nD) : Blk → Fin 2 → Nat
  | .w5 l => k0_off5 d (BitVec.ofNat 32 l.val)
  | .w6 r => k0_off6 d (k0_off6_at r).1 (k0_off6_at r).2
  | .w7 r => k0_off7 d (k0_off7_at r).1 (k0_off7_at r).2
  | .w10 r => k0_off10 d (k0_off10_at r).1 (k0_off10_at r).2

/-- A named block lies within the gathering buffer. -/
theorem Blk.inb (d : Dev nD) : (b : Blk) → ∀ a, b.off d a + S128x1024.size a ≤ S4096x1024.size a
  | .w5 l => k0_off5_inb d l
  | .w6 r => k0_off6_inb d r
  | .w7 r => k0_off7_inb d r
  | .w10 r => k0_off10_inb d r

/-- A named block is a whole number of memory words. -/
theorem Blk.words (d : Dev nD) : (b : Blk) → (Rect.unit (s := S4096x1024) (b.off d) S128x1024.size (b.inb d)).WholeWords (EltTy.packing .bf16)
  | .w5 l => k0_off5_wordsbf16 d l
  | .w6 r => k0_off6_wordsbf16 d r
  | .w7 r => k0_off7_wordsbf16 d r
  | .w10 r => k0_off10_wordsbf16 d r

/-- The offset of chunk `κ` of the result, as printed. -/
def coff (d : Dev nD) (κ : Fin 8) : Fin 2 → Nat :=
  match κ with
  | 0 => k0_off1 d
  | 1 => k0_off8 d (BitVec.ofNat 32 (1 + (0 : Fin 4).val))
  | 2 => k0_off8 d (BitVec.ofNat 32 (1 + (1 : Fin 4).val))
  | 3 => k0_off8 d (BitVec.ofNat 32 (1 + (2 : Fin 4).val))
  | 4 => k0_off8 d (BitVec.ofNat 32 (1 + (3 : Fin 4).val))
  | 5 => k0_off9 d (BitVec.ofNat 32 (1 + (0 : Fin 3).val))
  | 6 => k0_off9 d (BitVec.ofNat 32 (1 + (1 : Fin 3).val))
  | 7 => k0_off9 d (BitVec.ofNat 32 (1 + (2 : Fin 3).val))

/-- A chunk lies within the result. -/
theorem coff_inb (d : Dev nD) (κ : Fin 8) : ∀ a, coff d κ a + S512x1024.size a ≤ S4096x1024.size a :=
  match κ with
  | 0 => k0_off1_inb d
  | 1 => k0_off8_inb d 0
  | 2 => k0_off8_inb d 1
  | 3 => k0_off8_inb d 2
  | 4 => k0_off8_inb d 3
  | 5 => k0_off9_inb d 0
  | 6 => k0_off9_inb d 1
  | 7 => k0_off9_inb d 2

/-- A chunk is a whole number of memory words. -/
theorem coff_words (d : Dev nD) (κ : Fin 8) : (Rect.unit (s := S4096x1024) (coff d κ) S512x1024.size (coff_inb d κ)).WholeWords (EltTy.packing .bf16) :=
  match κ with
  | 0 => k0_off1_wordsbf16 d
  | 1 => k0_off8_wordsbf16 d 0
  | 2 => k0_off8_wordsbf16 d 1
  | 3 => k0_off8_wordsbf16 d 2
  | 4 => k0_off8_wordsbf16 d 3
  | 5 => k0_off9_wordsbf16 d 0
  | 6 => k0_off9_wordsbf16 d 1
  | 7 => k0_off9_wordsbf16 d 2

/-- The semaphore on the sender that transfer `t` completes on. -/
def sendSem (t : Fin 32) : DmaSem sig :=
  (![9, 10, 11, 12, 17, 21, 25, 27, 18, 22, 26, 28, 19, 23, 65, 66, 20, 24, 48, 52, 41, 43, 45, 49, 42, 44, 46, 50,
    67, 68, 47, 51] : Fin 32 → Fin 73) t

/-- The semaphore on the receiver that transfer `t` completes on. -/
def recvSem (t : Fin 32) : DmaSem sig :=
  (![13, 14, 15, 16, 29, 33, 37, 39, 30, 34, 38, 40, 31, 35, 69, 70, 32, 36, 60, 64, 53, 55, 57, 61, 54, 56, 58, 62,
    71, 72, 59, 63] : Fin 32 → Fin 73) t

/-- The semaphore of the copy of the argument's chunk. -/
def copySem : DmaSem sig := (0 : Fin 73)

/-- The semaphore of the copy of chunk `κ` to the result. -/
def flushSem (κ : Fin 8) : DmaSem sig := (![1, 2, 4, 7, 6, 3, 5, 8] : Fin 8 → Fin 73) κ

/-- The printed name of the block transfer `t` reads, on the sender. -/
def srcBlk (t : Fin 32) : Blk :=
  (![.w5 0, .w5 0, .w5 0, .w5 0, .w5 0, .w5 1, .w5 2, .w5 3, .w6 0, .w6 1, .w6 2, .w6 3, .w6 4, .w6 5, .w6 8, .w6 9,
    .w6 8, .w6 9, .w7 8, .w7 9, .w5 0, .w5 1, .w5 2, .w5 3, .w7 2, .w7 3, .w7 0, .w7 1, .w7 8, .w7 9, .w7 4, .w7 5] : Fin 32 → Blk) t

/-- The printed name of the block transfer `t` fills, on the receiver. -/
def dstBlk (t : Fin 32) : Blk :=
  (![.w5 0, .w5 1, .w5 2, .w5 3, .w6 0, .w6 1, .w6 2, .w6 3, .w6 4, .w6 5, .w6 6, .w6 7, .w6 8, .w6 9, .w10 0, .w10 1,
    .w6 10, .w6 11, .w7 10, .w7 11, .w7 2, .w7 3, .w7 0, .w7 1, .w7 6, .w7 7, .w7 4, .w7 5, .w10 2, .w10 3, .w7 8, .w7 9] : Fin 32 → Blk) t

/-- The device transfer `t` of device `d` addresses, as printed. -/
def tgt (d : Dev nD) (t : Fin 32) : Dev nD :=
  (![⟨k0_dev4 d, k0_dev4_lt d⟩, ⟨k0_dev5 d, k0_dev5_lt d⟩, ⟨k0_dev6 d, k0_dev6_lt d⟩, ⟨k0_dev7 d, k0_dev7_lt d⟩,
    ⟨k0_dev8 d, k0_dev8_lt d⟩, ⟨k0_dev10 d, k0_dev10_lt d⟩, ⟨k0_dev12 d, k0_dev12_lt d⟩, ⟨k0_dev14 d, k0_dev14_lt d⟩,
    ⟨k0_dev16 d, k0_dev16_lt d⟩, ⟨k0_dev17 d, k0_dev17_lt d⟩, ⟨k0_dev20 d, k0_dev20_lt d⟩, ⟨k0_dev21 d, k0_dev21_lt d⟩,
    ⟨k0_dev24 d, k0_dev24_lt d⟩, ⟨k0_dev25 d, k0_dev25_lt d⟩, ⟨k0_dev29 d, k0_dev29_lt d⟩, ⟨k0_dev31 d, k0_dev31_lt d⟩,
    ⟨k0_dev28 d, k0_dev28_lt d⟩, ⟨k0_dev30 d, k0_dev30_lt d⟩, ⟨k0_dev32 d, k0_dev32_lt d⟩, ⟨k0_dev34 d, k0_dev34_lt d⟩,
    ⟨k0_dev9 d, k0_dev9_lt d⟩, ⟨k0_dev11 d, k0_dev11_lt d⟩, ⟨k0_dev13 d, k0_dev13_lt d⟩, ⟨k0_dev15 d, k0_dev15_lt d⟩,
    ⟨k0_dev22 d, k0_dev22_lt d⟩, ⟨k0_dev23 d, k0_dev23_lt d⟩, ⟨k0_dev18 d, k0_dev18_lt d⟩, ⟨k0_dev19 d, k0_dev19_lt d⟩,
    ⟨k0_dev33 d, k0_dev33_lt d⟩, ⟨k0_dev35 d, k0_dev35_lt d⟩, ⟨k0_dev26 d, k0_dev26_lt d⟩, ⟨k0_dev27 d, k0_dev27_lt d⟩] : Fin 32 → Dev nD) t

/-- The device that signal `i` of device `d` addresses, as printed: the partner, the next and the previous device
    of the ring. -/
def sdev (d : Dev nD) (i : Fin 3) : Dev nD :=
  (![⟨k0_dev1 d, k0_dev1_lt d⟩, ⟨k0_dev2 d, k0_dev2_lt d⟩, ⟨k0_dev3 d, k0_dev3_lt d⟩] : Fin 3 → Dev nD) i

/-! ## The memrefs the steps name -/

/-- A named block of the gathering buffer. -/
abbrev gblk (d : Dev nD) (b : Blk) : Memref sig .tc .vmem S128x1024 .bf16 :=
  mG.slice (Rect.unit (s := S4096x1024) (b.off d) S128x1024.size (b.inb d)) (fun _ => rfl)

/-- Chunk `κ` of the gathering buffer. -/
abbrev gchunk (d : Dev nD) (κ : Fin 8) : Memref sig .tc .vmem S512x1024 .bf16 :=
  mG.slice (Rect.unit (s := S4096x1024) (coff d κ) S512x1024.size (coff_inb d κ)) (fun _ => rfl)

/-- Chunk `κ` of the result. -/
abbrev ochunk (d : Dev nD) (κ : Fin 8) : Memref sig .tc .hbm S512x1024 .bf16 :=
  mO.slice (Rect.unit (s := S4096x1024) (coff d κ) S512x1024.size (coff_inb d κ)) (fun _ => rfl)

/-- The own chunk of the argument. -/
abbrev xchunk (d : Dev nD) : Memref sig .tc .hbm S512x1024 .f32 :=
  mX.slice (Rect.unit (s := S4096x1024) (k0_off1 d) S512x1024.size (k0_off1_inb d)) (fun _ => rfl)

/-- The quarter of lane `l`, in a buffer of one chunk. -/
abbrev qrect (d : Dev nD) (l : Fin 4) : Rect S512x1024 :=
  Rect.unit (s := S512x1024) (k0_off2 d (BitVec.ofNat 32 l.val)) S128x1024.size (k0_off2_inb d l)

/-- The quarter of lane `l` of the chunk to send to the partner. -/
abbrev squart (d : Dev nD) (l : Fin 4) : Memref sig .tc .vmem S128x1024 .bf16 := mS.slice (qrect d l) (fun _ => rfl)

/-- The quarter of lane `l` of the chunk received from the partner. -/
abbrev pquart (d : Dev nD) (l : Fin 4) : Memref sig .tc .vmem S128x1024 .bf16 := mP.slice (qrect d l) (fun _ => rfl)

/-- A quarter is a whole number of memory words. -/
theorem qwords (d : Dev nD) (l : Fin 4) : (qrect d l).WholeWords (EltTy.packing .bf16) := k0_off2_wordsbf16 d l

/-- The rectangle of a whole chunk buffer. -/
abbrev crect : Rect S512x1024 := Rect.unit (s := S512x1024) ![0, 0] S512x1024.size inb_S512x1024_S512x1024_0_0

/-- The rectangle the sum of quarter `l` is read at. -/
abbrev rrect (d : Dev nD) (l : Fin 4) : Rect S512x1024 :=
  Rect.unit (s := S512x1024) (k0_off3 d (BitVec.ofNat 32 l.val)) S128x1024.size (k0_off3_inb d l)

/-- The rectangle the sum of quarter `l` is written at. -/
abbrev wrect (d : Dev nD) (l : Fin 4) : Rect S4096x1024 :=
  Rect.unit (s := S4096x1024) (k0_off4 d (BitVec.ofNat 32 l.val)) S128x1024.size (k0_off4_inb d l)

/-- The gathering buffer is whole. -/
abbrev wG : mG.IsWhole := Memref.isWhole_whole _
/-- The result is whole. -/
abbrev wO : mO.IsWhole := Memref.isWhole_whole _
/-- The buffer of the own chunk is whole. -/
abbrev wC : mC.IsWhole := Memref.isWhole_whole _
/-- The buffer of the rounded chunk is whole. -/
abbrev wS : mS.IsWhole := Memref.isWhole_whole _
/-- The buffer of the partner's chunk is whole. -/
abbrev wP : mP.IsWhole := Memref.isWhole_whole _

/-! ## The steps -/

/-- A step of the body. -/
inductive Step where
  /-- Start the copy of the argument's own chunk. -/
  | copyIn
  /-- Signal the barrier of neighbour `i`. -/
  | sig (i : Fin 3)
  /-- Wait for the three signals. -/
  | waitBar
  /-- Wait for the copy of the own chunk. -/
  | waitCopy
  /-- Round the own chunk for the partner. -/
  | cast
  /-- Send quarter `l` to the partner. -/
  | sendP (l : Fin 4)
  /-- Wait for quarter `l` from the partner. -/
  | waitP (l : Fin 4)
  /-- Add quarter `l`. -/
  | reduce (l : Fin 4)
  /-- Send a block (transfer `t`). -/
  | send (t : Fin 32)
  /-- Wait for the block that transfer `t` fills. -/
  | waitRecv (t : Fin 32)
  /-- Start the copy of chunk `κ` to the result. -/
  | flush (κ : Fin 8)
  /-- Wait until quarter `l` has been sent to the partner. -/
  | waitSentP (l : Fin 4)
  /-- Wait until the block of transfer `t` has been sent. -/
  | waitSent (t : Fin 32)
  /-- Wait for the copy of chunk `κ` to the result. -/
  | waitFlush (κ : Fin 8)
deriving DecidableEq

/-- The stage-0 transfer of lane `l`. -/
def pT (l : Fin 4) : Fin 32 := ⟨l.val, by omega⟩

/-- The barrier semaphore. -/
abbrev barSem : Sem sig := (SemArray.scalar (sig.barrier 0 rfl) : Sems sig S_).sem

/-- The body's programs. -/
abbrev BProg (F : FTy → Type) := Prog (TpuEff nD τ sig (Elt F) Λ₀ .tc) PUnit

/-- A transfer of one block to device `e`, before the rest `k` of the program. -/
abbrev remoteSend (src dst : Memref sig .tc .vmem S128x1024 .bf16) (e : Dev nD) (sS sR : DmaSem sig)
    (hs : src.view.WordExact) (hd : dst.view.WordExact) (k : BProg F) : BProg F :=
  .op (.enqueueDma src (.remote (Dev.tc e) dst (.dma sS)) (.dma sR) hs hd ⟨⟨rfl, Or.inl rfl⟩, trivial⟩) fun _ => k

/-- A step before the rest `k` of the program, on device `d`. -/
def Step.prog (d : Dev nD) (k : BProg F) : Step → BProg F
  | .copyIn => .op (.enqueueDma (xchunk d) (.here mC) (.dma copySem) (View.wordExact_bits rfl) wC.wordExact ⟨Or.inl rfl, trivial⟩) fun _ => k
  | .sig i => .op (.semSignal (sdev d i, .tc) barSem (1#32).toInt) fun _ => k
  | .waitBar => .op (.semWait barSem (3#32).toInt) fun _ => k
  | .waitCopy => .op (.waitDma2 copySem (xchunk d) mC (View.wordExact_bits rfl) wC.wordExact) fun _ => k
  | .cast =>
    .op (.load mC crect.toLoadRect (View.loadsAt_vmem h_S512x1024)) fun v =>
    .op (.load mS crect.toLoadRect (View.loadsAt_vmem h_S512x1024)) fun _ =>
    .op (.store mS crect (k0_pay1 v) Finset.univ (View.stores_vmem h_S512x1024 (wS.storeExact_slice rfl _ packedbf16_S512x1024_S512x1024_0_0) (fun _ => rfl)) (.inl rfl)) fun _ => k
  | .sendP l => remoteSend (squart d l) (pquart d l) (tgt d (pT l)) (sendSem (pT l)) (recvSem (pT l))
      (wS.wordExact_slice rfl _ (qwords d l)) (wP.wordExact_slice rfl _ (qwords d l)) k
  | .waitP l => .op (.waitDma2 (recvSem (pT l)) (squart d l) (pquart d l) (wS.wordExact_slice rfl _ (qwords d l)) (wP.wordExact_slice rfl _ (qwords d l))) fun _ => k
  | .reduce l =>
    .op (.load mC (rrect d l).toLoadRect (View.loadsAt_vmem h_S128x1024)) fun v =>
    .op (.load mP (rrect d l).toLoadRect (View.loadsAt_vmem h_S128x1024)) fun w =>
    .op (.load mG (wrect d l).toLoadRect (View.loadsAt_vmem h_S128x1024)) fun _ =>
    .op (.store mG (wrect d l) (k0_pay2 v w) Finset.univ (View.stores_vmem h_S128x1024 (wG.storeExact_slice rfl _ (k0_off4_packedbf16 d l)) (fun _ => rfl)) (.inl rfl)) fun _ => k
  | .send t => remoteSend (gblk d (srcBlk t)) (gblk d (srcBlk t)) (tgt d t) (sendSem t) (recvSem t)
      (wG.wordExact_slice rfl _ ((srcBlk t).words d)) (wG.wordExact_slice rfl _ ((srcBlk t).words d)) k
  | .waitRecv t => .op (.waitDma2 (recvSem t) (gblk d (dstBlk t)) (gblk d (dstBlk t)) (wG.wordExact_slice rfl _ ((dstBlk t).words d))
      (wG.wordExact_slice rfl _ ((dstBlk t).words d))) fun _ => k
  | .flush κ => .op (.enqueueDma (gchunk d κ) (.here (ochunk d κ)) (.dma (flushSem κ)) (wG.wordExact_slice rfl _ (coff_words d κ))
      (wO.wordExact_slice rfl _ (coff_words d κ)) ⟨Or.inl rfl, trivial⟩) fun _ => k
  | .waitSentP l => .op (.waitDma2 (sendSem (pT l)) (pquart d l) (squart d l) (wP.wordExact_slice rfl _ (qwords d l)) (wS.wordExact_slice rfl _ (qwords d l))) fun _ => k
  | .waitSent t => .op (.waitDma2 (sendSem t) (gblk d (srcBlk t)) (gblk d (srcBlk t)) (wG.wordExact_slice rfl _ ((srcBlk t).words d))
      (wG.wordExact_slice rfl _ ((srcBlk t).words d))) fun _ => k
  | .waitFlush κ => .op (.waitDma2 (flushSem κ) (gchunk d κ) (ochunk d κ) (wG.wordExact_slice rfl _ (coff_words d κ))
      (wO.wordExact_slice rfl _ (coff_words d κ))) fun _ => k

/-- The program of a list of steps. -/
def runSteps (d : Dev nD) : List Step → BProg F
  | [] => .ret ⟨⟩
  | s :: ss => s.prog d (runSteps d ss)

/-- The body's steps, in order. -/
def steps : List Step :=
  [.copyIn, .sig 0, .sig 1, .sig 2, .waitBar, .waitCopy, .cast, .sendP 0, .sendP 1, .sendP 2, .sendP 3,
   .waitP 0, .reduce 0, .send 4, .send 20, .waitP 1, .reduce 1, .send 5, .send 21,
   .waitP 2, .reduce 2, .send 6, .send 22, .waitP 3, .reduce 3, .send 7, .send 23, .flush 0,
   .waitRecv 4, .send 8, .waitRecv 5, .send 9, .waitRecv 22, .send 26, .waitRecv 23, .send 27,
   .waitRecv 6, .send 10, .waitRecv 7, .send 11, .waitRecv 20, .send 24, .waitRecv 21, .send 25, .flush 1, .flush 5,
   .waitRecv 8, .send 12, .waitRecv 9, .send 13, .waitRecv 26, .send 30, .waitRecv 27, .send 31,
   .waitRecv 10, .waitRecv 11, .waitRecv 24, .waitRecv 25, .flush 2, .flush 6,
   .waitRecv 12, .send 16, .send 14, .waitRecv 13, .send 17, .send 15, .waitRecv 30, .send 18, .send 28, .waitRecv 31, .send 19, .send 29,
   .waitRecv 16, .waitRecv 17, .waitRecv 18, .waitRecv 19, .flush 4,
   .waitRecv 14, .waitRecv 15, .flush 3, .waitRecv 28, .waitRecv 29, .flush 7,
   .waitSentP 0, .waitSentP 1, .waitSentP 2, .waitSentP 3,
   .waitSent 4, .waitSent 20, .waitSent 5, .waitSent 21, .waitSent 6, .waitSent 22, .waitSent 7, .waitSent 23,
   .waitSent 8, .waitSent 9, .waitSent 26, .waitSent 27, .waitSent 10, .waitSent 11, .waitSent 24, .waitSent 25,
   .waitSent 12, .waitSent 13, .waitSent 30, .waitSent 31,
   .waitSent 16, .waitSent 14, .waitSent 17, .waitSent 15, .waitSent 18, .waitSent 28, .waitSent 19, .waitSent 29,
   .waitFlush 0, .waitFlush 1, .waitFlush 5, .waitFlush 2, .waitFlush 6, .waitFlush 4, .waitFlush 3, .waitFlush 7]

set_option maxRecDepth 65536 in
set_option maxHeartbeats 4000000 in
/-- The printed body is the run of the steps. -/
theorem cc0_body_run (t : Fin cfg0.N) : bodyAt0 (F := F) t = .op .deviceId (fun d => runSteps d steps) := rfl

end Cert.RingProof

end
-- ==== Proof.Geom.lean ====
/-
# `Geom`: where the devices, the chunks and the blocks lie

The devices of one plane (`x` fixed) form a ring of eight. Every device gathers eight chunks of 512 rows, each cut
into four blocks of 128 rows. This module gives the printed offsets and devices in closed form, the sets of
positions that the printed memrefs cover, and from which device each block of the gathered buffer comes.
-/
module

public import proofs.«01_k».proof.Proof.Steps
public import Idealize.ShloMosaic.Lib.Pipeline.Value

@[expose] public section

noncomputable section

namespace Cert.RingProof

open Cert.KernelIdeal Cert.KernelIdeal.Gen
open Idealize.ShloMosaic Idealize.SL.Sem
open Idealize.ShloMosaic.TcCoe

/-! ## Numbers -/

/-- The place of a device in its plane's ring. -/
def place (c : Dev nD) : ℕ := if c.val / 4 % 2 = 0 then c.val % 4 else 7 - c.val % 4

/-- Which chunk stage `κ` of device `c` is about: the own one, the four behind it, the three ahead of it. -/
def chunk (c : Dev nD) (κ : Fin 8) : Fin 8 :=
  ⟨(place c + (![0, 7, 6, 5, 4, 1, 2, 3] : Fin 8 → ℕ) κ) % 8, Nat.mod_lt _ (by decide)⟩

/-- Which quarter of a chunk lane `l` of device `c` is about. -/
def pq (c : Dev nD) (l : Fin 4) : Fin 4 := ⟨(l.val + 2 * (c.val / 8)) % 4, Nat.mod_lt _ (by decide)⟩

/-- The stage of a transfer. -/
def stg (t : Fin 32) : Fin 8 := ⟨t.val / 4, by omega⟩
/-- The lane of a transfer. -/
def lane (t : Fin 32) : Fin 4 := ⟨t.val % 4, by omega⟩

/-- The transfer of a stage and a lane. -/
def kl (κ : Fin 8) (l : Fin 4) : Fin 32 := ⟨4 * κ.val + l.val, by omega⟩

/-- The block of the gathering buffer that `t` stands for on device `c`. -/
def pos (c : Dev nD) (t : Fin 32) : Fin 32 := ⟨4 * (chunk c (stg t)).val + (pq c (lane t)).val, by omega⟩

/-- Whose block a transfer passes on: the block that an earlier transfer filled, or the own sum. -/
def srcT (t : Fin 32) : Fin 32 :=
  (![0, 1, 2, 3, 0, 1, 2, 3, 4, 5, 6, 7, 8, 9, 12, 13, 12, 13, 30, 31, 0, 1, 2, 3, 20, 21, 22, 23, 30, 31, 26, 27] : Fin 32 → Fin 32) t

/-- The direction of a transfer: to the partner (0), to the next device (1), to the previous device (2). -/
def dir (t : Fin 32) : Fin 3 :=
  (![0, 0, 0, 0, 1, 1, 1, 1, 1, 1, 1, 1, 1, 1, 0, 0, 1, 1, 2, 2, 2, 2, 2, 2, 2, 2, 2, 2, 0, 0, 2, 2] : Fin 32 → Fin 3) t

/-- The neighbour from which direction `j` leads back. -/
def back (j : Fin 3) : Fin 3 := (![0, 2, 1] : Fin 3 → Fin 3) j

/-- The device at place `p` of the plane of device `c`. -/
def atPlace (c : Dev nD) (p : ℕ) : Dev nD :=
  Fin.ofNat 16 (8 * (c.val / 8) + (if p < 4 then p else 4 + (7 - p)))

/-- The device whose sum block `p` of device `c`'s gathered buffer is. -/
def org (c : Dev nD) (p : Fin 32) : Dev nD :=
  if p = pos c 14 ∨ p = pos c 15 ∨ p = pos c 28 ∨ p = pos c 29 then sdev (atPlace c (p.val / 4)) 0 else atPlace c (p.val / 4)

/-! ## Devices -/

/-- The way back from a neighbour. -/
theorem sdev_back (c : Dev nD) (j : Fin 3) : sdev (sdev c j) (back j) = c := by revert c j; decide +kernel
/-- The way back from the way back. -/
theorem back_back (j : Fin 3) : back (back j) = j := by revert j; decide
/-- A transfer goes to the neighbour in its direction. -/
theorem tgt_eq (c : Dev nD) (t : Fin 32) : tgt c t = sdev c (dir t) := by revert c t; decide +kernel
/-- Different devices have different neighbours in a direction. -/
theorem sdev_inj (j : Fin 3) : Function.Injective fun c => sdev c j := fun a b h => by
  rw [← sdev_back a j, ← sdev_back b j]; exact congrArg (fun c => sdev c (back j)) h

/-! ## Offsets -/

/-- The offset of a chunk. -/
theorem coff_eq (c : Dev nD) (κ : Fin 8) : coff c κ = ![512 * (chunk c κ).val, 0] := by revert c κ; decide +kernel
/-- The offset of the own chunk. -/
theorem off1_eq (c : Dev nD) : k0_off1 c = ![512 * (chunk c 0).val, 0] := coff_eq c 0
/-- The offset of the quarter that goes to the partner. -/
theorem off2_eq (c : Dev nD) (l : Fin 4) : k0_off2 c (BitVec.ofNat 32 l.val) = ![128 * (pq (sdev c 0) l).val, 0] := by revert c l; decide +kernel
/-- The offset of the quarter that comes from the partner. -/
theorem off3_eq (c : Dev nD) (l : Fin 4) : k0_off3 c (BitVec.ofNat 32 l.val) = ![128 * (pq c l).val, 0] := by revert c l; decide +kernel
/-- The offset of a block of own sums. -/
theorem off4_eq (c : Dev nD) (l : Fin 4) : k0_off4 c (BitVec.ofNat 32 l.val) = ![128 * (pos c (pT l)).val, 0] := by revert c l; decide +kernel
/-- The offset of the block that a transfer passes on. -/
theorem src_off (c : Dev nD) (t : Fin 32) (h : 4 ≤ t.val) : (srcBlk t).off c = ![128 * (pos c (srcT t)).val, 0] := by revert c t; decide +kernel
/-- A block keeps its number on its way. -/
theorem pos_tgt (c : Dev nD) (t : Fin 32) (h : 4 ≤ t.val) : pos (tgt c t) t = pos c (srcT t) := by revert c t; decide +kernel

/-- Different transfers stand for different blocks. -/
theorem pos_inj (c : Dev nD) : Function.Injective (pos c) := by revert c; decide +kernel
/-- Every block is some transfer's. -/
theorem pos_surj (c : Dev nD) : Function.Surjective (pos c) := by revert c; decide +kernel
/-- Different lanes have different quarters. -/
theorem pq_inj (c : Dev nD) : Function.Injective (pq c) := by revert c; decide +kernel
/-- Every quarter is some lane's. -/
theorem pq_surj (c : Dev nD) : Function.Surjective (pq c) := by revert c; decide +kernel
/-- Different stages have different chunks. -/
theorem chunk_inj (c : Dev nD) : Function.Injective (chunk c) := by revert c; decide +kernel
/-- Every chunk is some stage's. -/
theorem chunk_surj (c : Dev nD) : Function.Surjective (chunk c) := by revert c; decide +kernel
/-- The number of a block by its chunk and quarter. -/
theorem pos_kl (c : Dev nD) (κ : Fin 8) (l : Fin 4) : (pos c (kl κ l)).val = 4 * (chunk c κ).val + (pq c l).val := by revert c κ l; decide +kernel

/-- The exchange is stage 0. -/
theorem pT_eq (l : Fin 4) : pT l = kl 0 l := Fin.ext (Nat.zero_add _).symm

/-! ## Whose sum a block is -/

/-- The blocks of stage 0 are own sums. -/
theorem org_own (c : Dev nD) (l : Fin 4) : org c (pos c (pT l)) = c := by revert c l; decide +kernel
/-- A block that is passed on keeps its origin. -/
theorem org_tgt (c : Dev nD) (t : Fin 32) (h : 4 ≤ t.val) : org (tgt c t) (pos c (srcT t)) = org c (pos c (srcT t)) := by revert c t; decide +kernel
/-- A block's origin lies at the block's chunk of the ring. -/
theorem place_org (c : Dev nD) (p : Fin 32) : place (org c p) = p.val / 4 := by revert c p; decide +kernel
/-- Partners lie at the same place. -/
theorem place_partner (c : Dev nD) : place (sdev c 0) = place c := by revert c; decide +kernel

/-! ## Sets of positions -/

/-- Rows `128 p … 128 p + 127` of a gathering buffer. -/
def bset (p : Fin 32) : Finset S4096x1024.Idx := Finset.univ.filter fun i => (i 0).val / 128 = p.val
/-- The rows of chunk `q`. -/
def cset (q : Fin 8) : Finset S4096x1024.Idx := Finset.univ.filter fun i => (i 0).val / 512 = q.val
/-- The rows of quarter `q` of a chunk buffer. -/
def qset (q : Fin 4) : Finset S512x1024.Idx := Finset.univ.filter fun i => (i 0).val / 128 = q.val

/-- A position of a block. -/
theorem mem_bset {p : Fin 32} {i : S4096x1024.Idx} : i ∈ bset p ↔ (i 0).val / 128 = p.val := by simp [bset]
/-- A position of a chunk. -/
theorem mem_cset {q : Fin 8} {i : S4096x1024.Idx} : i ∈ cset q ↔ (i 0).val / 512 = q.val := by simp [cset]
/-- A position of a quarter. -/
theorem mem_qset {q : Fin 4} {i : S512x1024.Idx} : i ∈ qset q ↔ (i 0).val / 128 = q.val := by simp [qset]

/-- A rectangle of 128 rows of a whole buffer covers a block. -/
theorem rect_bset {off : Fin 2 → ℕ} {p : Fin 32} (h : off = ![128 * p.val, 0]) (inb : ∀ a, off a + S128x1024.size a ≤ S4096x1024.size a) :
    (Rect.unit (s := S4096x1024) off S128x1024.size inb).set = bset p := by
  subst h
  ext i
  have h1 : (i 1).val < 1024 := (i 1).isLt
  rw [Rect.mem_set_unit, mem_bset]
  refine (Fin.forall_fin_two (p := fun a => _ ≤ (i a).val ∧ (i a).val < _ + S128x1024.size a)).trans ?_
  show (128 * p.val ≤ (i 0).val ∧ (i 0).val < 128 * p.val + 128) ∧ (0 ≤ (i 1).val ∧ (i 1).val < 0 + 1024) ↔ _
  omega

/-- A rectangle of 512 rows covers a chunk. -/
theorem rect_cset {off : Fin 2 → ℕ} {q : Fin 8} (h : off = ![512 * q.val, 0]) (inb : ∀ a, off a + S512x1024.size a ≤ S4096x1024.size a) :
    (Rect.unit (s := S4096x1024) off S512x1024.size inb).set = cset q := by
  subst h
  ext i
  have h1 : (i 1).val < 1024 := (i 1).isLt
  rw [Rect.mem_set_unit, mem_cset]
  refine (Fin.forall_fin_two (p := fun a => _ ≤ (i a).val ∧ (i a).val < _ + S512x1024.size a)).trans ?_
  show (512 * q.val ≤ (i 0).val ∧ (i 0).val < 512 * q.val + 512) ∧ (0 ≤ (i 1).val ∧ (i 1).val < 0 + 1024) ↔ _
  omega

/-- A rectangle of 128 rows of a chunk buffer covers a quarter. -/
theorem rect_qset {off : Fin 2 → ℕ} {q : Fin 4} (h : off = ![128 * q.val, 0]) (inb : ∀ a, off a + S128x1024.size a ≤ S512x1024.size a) :
    (Rect.unit (s := S512x1024) off S128x1024.size inb).set = qset q := by
  subst h
  ext i
  have h1 : (i 1).val < 1024 := (i 1).isLt
  rw [Rect.mem_set_unit, mem_qset]
  refine (Fin.forall_fin_two (p := fun a => _ ≤ (i a).val ∧ (i a).val < _ + S128x1024.size a)).trans ?_
  show (128 * q.val ≤ (i 0).val ∧ (i 0).val < 128 * q.val + 128) ∧ (0 ≤ (i 1).val ∧ (i 1).val < 0 + 1024) ↔ _
  omega

/-- A transfer's memref covers its block. -/
theorem gblk_set (c : Dev nD) (t : Fin 32) (h : 4 ≤ t.val) : (gblk c (srcBlk t)).view.set = bset (pos c (srcT t)) :=
  (View.set_slice_whole _ _).trans (rect_bset (src_off c t h) _)
/-- A chunk's memref in the gathering buffer covers the chunk. -/
theorem gchunk_set (c : Dev nD) (κ : Fin 8) : (gchunk c κ).view.set = cset (chunk c κ) :=
  (View.set_slice_whole _ _).trans (rect_cset (coff_eq c κ) _)
/-- A chunk's memref in the result covers the chunk. -/
theorem ochunk_set (c : Dev nD) (κ : Fin 8) : (ochunk c κ).view.set = cset (chunk c κ) :=
  (View.set_slice_whole _ _).trans (rect_cset (coff_eq c κ) _)
/-- The own chunk's memref in the argument covers the chunk. -/
theorem xchunk_set (c : Dev nD) : (xchunk c).view.set = cset (chunk c 0) :=
  (View.set_slice_whole _ _).trans (rect_cset (off1_eq c) _)
/-- A quarter's memref at its source covers the quarter. -/
theorem squart_set (c : Dev nD) (l : Fin 4) : (squart c l).view.set = qset (pq (sdev c 0) l) :=
  (View.set_slice_whole _ _).trans (rect_qset (off2_eq c l) _)
/-- A quarter's memref at its destination covers the quarter. -/
theorem pquart_set (c : Dev nD) (l : Fin 4) : (pquart c l).view.set = qset (pq (sdev c 0) l) :=
  (View.set_slice_whole _ _).trans (rect_qset (off2_eq c l) _)
/-- Own sums are written to a block. -/
theorem wrect_set (c : Dev nD) (l : Fin 4) : (wrect c l).set = bset (pos c (pT l)) := rect_bset (off4_eq c l) _
/-- The parts of own sums are read from a quarter. -/
theorem rrect_set (c : Dev nD) (l : Fin 4) : (rrect c l).set = qset (pq c l) := rect_qset (off3_eq c l) _

/-! ## How the sets make up the buffers -/

/-- Blocks of different transfers are disjoint. -/
theorem bset_disj (c : Dev nD) {t t' : Fin 32} (h : t ≠ t') : Disjoint (bset (pos c t)) (bset (pos c t')) :=
  Finset.disjoint_left.mpr fun i hi hi' => h (pos_inj c (Fin.ext ((mem_bset.mp hi).symm.trans (mem_bset.mp hi'))))
/-- Chunks of different stages are disjoint. -/
theorem cset_disj (c : Dev nD) {κ κ' : Fin 8} (h : κ ≠ κ') : Disjoint (cset (chunk c κ)) (cset (chunk c κ')) :=
  Finset.disjoint_left.mpr fun i hi hi' => h (chunk_inj c (Fin.ext ((mem_cset.mp hi).symm.trans (mem_cset.mp hi'))))
/-- Quarters of different lanes are disjoint. -/
theorem qset_disj (c : Dev nD) {l l' : Fin 4} (h : l ≠ l') : Disjoint (qset (pq c l)) (qset (pq c l')) :=
  Finset.disjoint_left.mpr fun i hi hi' => h (pq_inj c (Fin.ext ((mem_qset.mp hi).symm.trans (mem_qset.mp hi'))))

/-- The blocks of all transfers are the whole buffer. -/
theorem bset_all (c : Dev nD) : (Finset.univ : Finset (Fin 32)).biUnion (fun t => bset (pos c t)) = Finset.univ := by
  ext i
  have h0 : (i 0).val < 4096 := (i 0).isLt
  obtain ⟨t, ht⟩ := pos_surj c ⟨(i 0).val / 128, by omega⟩
  simp only [Finset.mem_biUnion, Finset.mem_univ, true_and, iff_true]
  exact ⟨t, mem_bset.mpr (by rw [ht])⟩
/-- The chunks of all stages are the whole buffer. -/
theorem cset_all (c : Dev nD) : (Finset.univ : Finset (Fin 8)).biUnion (fun κ => cset (chunk c κ)) = Finset.univ := by
  ext i
  have h0 : (i 0).val < 4096 := (i 0).isLt
  obtain ⟨t, ht⟩ := chunk_surj c ⟨(i 0).val / 512, by omega⟩
  simp only [Finset.mem_biUnion, Finset.mem_univ, true_and, iff_true]
  exact ⟨t, mem_cset.mpr (by rw [ht])⟩
/-- The quarters of all lanes are the whole chunk buffer. -/
theorem qset_all (c : Dev nD) : (Finset.univ : Finset (Fin 4)).biUnion (fun l => qset (pq c l)) = Finset.univ := by
  ext i
  have h0 : (i 0).val < 512 := (i 0).isLt
  obtain ⟨t, ht⟩ := pq_surj c ⟨(i 0).val / 128, by omega⟩
  simp only [Finset.mem_biUnion, Finset.mem_univ, true_and, iff_true]
  exact ⟨t, mem_qset.mpr (by rw [ht])⟩
/-- A chunk is its four blocks. -/
theorem cset_blocks (c : Dev nD) (κ : Fin 8) : (Finset.univ : Finset (Fin 4)).biUnion (fun l => bset (pos c (kl κ l))) = cset (chunk c κ) := by
  ext i
  have h0 : (i 0).val < 4096 := (i 0).isLt
  simp only [Finset.mem_biUnion, Finset.mem_univ, true_and, mem_bset, mem_cset, pos_kl]
  constructor
  · rintro ⟨l, hl⟩; have := (pq c l).isLt; omega
  · intro h
    obtain ⟨l, hl⟩ := pq_surj c ⟨(i 0).val / 128 % 4, by omega⟩
    exact ⟨l, by rw [hl]; show _ = _ + (i 0).val / 128 % 4; omega⟩

/-! ## Contents -/

section Contents

variable {F : FTy → Type} [FloatOps F]
variable (m : (ℓ : Loc nD τ sig) → Buf (Elt F) ℓ)

/-- The own chunk of the argument. -/
def xcF (c : Dev nD) : S512x1024.Idx → Elt F .f32 := (xchunk c).view.read (Elt F) (m ((c : Thread nD τ).loc main_arg0))

/-- The own chunk, rounded. -/
def msF (c : Dev nD) : S512x1024.Idx → Elt F .bf16 := k0_pay1 (xcF m c)
/-- The partner's chunk, rounded. -/
def p1F (c : Dev nD) : S512x1024.Idx → Elt F .bf16 := msF m (sdev c 0)

/-- A position of the whole array, within its chunk. -/
def inChunk (i : S4096x1024.Idx) : S512x1024.Idx := fun
  | 0 => ⟨(i 0).val % 512, Nat.mod_lt _ (by decide)⟩
  | 1 => i 1

/-- One element of a sum. -/
def addE (a : Elt F .f32) (b : Elt F .bf16) : Elt F .bf16 :=
  k0_pay2 (F := F) (fun _ => a) (fun _ => b) (Shape.Idx.first h_S128x1024)

/-- The sum that the kernel stores, at an element. -/
theorem k0_pay2_apply (v : Vec F S128x1024 .f32) (w : Vec F S128x1024 .bf16) (j : S128x1024.Idx) : k0_pay2 (F := F) v w j = addE (v j) (w j) := by
  unfold addE k0_pay2
  simp only [shapeCast_self]
  rfl

/-- The sum that device `c` makes of the block of position `i`. -/
def sumF (c : Dev nD) (i : S4096x1024.Idx) : Elt F .bf16 := addE (xcF m c (inChunk i)) (p1F m c (inChunk i))

/-- The gathered buffer of device `c`, every block in place. -/
def gF (c : Dev nD) (i : S4096x1024.Idx) : Elt F .bf16 :=
  sumF m (org c ⟨(i 0).val / 128, by have h : (i 0).val < 4096 := (i 0).isLt; omega⟩) i

/-- The gathered buffer within a block. -/
theorem gF_block {c : Dev nD} {p : Fin 32} {i : S4096x1024.Idx} (h : i ∈ bset p) : gF m c i = sumF m (org c p) i := by
  unfold gF; congr 2; exact Fin.ext (mem_bset.mp h)

/-- What a transfer carries is what the receiver is to have there. -/
theorem gF_tgt (c : Dev nD) (t : Fin 32) (h : 4 ≤ t.val) {i : S4096x1024.Idx} (hi : i ∈ bset (pos c (srcT t))) : gF m (tgt c t) i = gF m c i := by
  rw [gF_block m hi, gF_block m hi, org_tgt c t h]

/-- A copy between places that lie alike. -/
theorem copy_same {κ : Kind} {sp : Space} {s : Shape} {e : EltTy} (v : View sig κ sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply, cast_cast, cast_eq]

/-- The block that `reduce` writes holds the own sums. -/
theorem reduce_eq (c : Dev nD) (l : Fin 4) (f : S4096x1024.Idx → Elt F .bf16) :
    ∀ i ∈ bset (pos c (pT l)),
      (mG.access (wrect c l)).write (Elt F) f (k0_pay2 (mC.view.readAt (Elt F) (rrect c l) (xcF m c)) (mP.view.readAt (Elt F) (rrect c l) (p1F m c))) Finset.univ i = gF m c i := by
  intro i hi
  rw [gF_block m hi, org_own]
  rw [← wrect_set c l, ← Rect.map_emb_univ] at hi
  obtain ⟨x, -, rfl⟩ := Finset.mem_map.mp hi
  refine (View.write_emb_of_mem (v := mG.access (wrect c l)) _ _ (Finset.mem_univ x)).trans ?_
  rw [cast_eq, k0_pay2_apply]
  have e : (rrect c l).emb x = inChunk ((wrect c l).emb x) := by
    funext a
    have hx : (x 0).val < 128 := (x 0).isLt
    have h3 := congrFun (off3_eq c l)
    have h4 := congrFun (off4_eq c l)
    have hp : (pos c (pT l)).val = 4 * (chunk c 0).val + (pq c l).val := by rw [pT_eq]; exact pos_kl c 0 l
    have hl := (pq c l).isLt
    refine Fin.ext ?_
    revert a
    refine Fin.forall_fin_two.mpr ⟨?_, ?_⟩
    · show k0_off3 c (BitVec.ofNat 32 l.val) 0 + 1 * (x 0).val = (k0_off4 c (BitVec.ofNat 32 l.val) 0 + 1 * (x 0).val) % 512
      rw [h3 0, h4 0]
      show 128 * (pq c l).val + 1 * (x 0).val = (128 * (pos c (pT l)).val + 1 * (x 0).val) % 512
      omega
    · show k0_off3 c (BitVec.ofNat 32 l.val) 1 + 1 * (x 1).val = k0_off4 c (BitVec.ofNat 32 l.val) 1 + 1 * (x 1).val
      rw [h3 1, h4 1]; rfl
  show addE (xcF m c ((rrect c l).emb x)) (p1F m c ((rrect c l).emb x)) = sumF m c ((wrect c l).emb x)
  rw [e]; rfl

/-- A quarter on its way to the partner. -/
theorem part_eq (c : Dev nD) (l : Fin 4) (f : S512x1024.Idx → Elt F .bf16) :
    ∀ i ∈ qset (pq (sdev c 0) l), (pquart c l).view.write (Elt F) f ((squart c l).view.read (Elt F) (msF m c)) Finset.univ i = p1F m (sdev c 0) i := by
  intro i hi
  have hb : sdev (sdev c 0) 0 = c := sdev_back c 0
  unfold p1F
  rw [hb]
  rw [← pquart_set c l] at hi
  obtain ⟨x, -, rfl⟩ := Finset.mem_map.mp hi
  refine (View.write_emb_of_mem (v := (pquart c l).view) _ _ (Finset.mem_univ x)).trans ?_
  rfl

/-- A chunk on its way to the result. -/
theorem flush_eq (c : Dev nD) (κ : Fin 8) (f : S4096x1024.Idx → Elt F .bf16) :
    ∀ i ∈ cset (chunk c κ), (ochunk c κ).view.write (Elt F) f ((gchunk c κ).view.read (Elt F) (gF m c)) Finset.univ i = gF m c i := by
  intro i hi
  rw [← ochunk_set c κ] at hi
  obtain ⟨x, -, rfl⟩ := Finset.mem_map.mp hi
  refine (View.write_emb_of_mem (v := (ochunk c κ).view) _ _ (Finset.mem_univ x)).trans ?_
  rfl

end Contents

end Cert.RingProof

end
-- ==== Proof.Cells.lean ====
/-
# `Cells`: what the semaphores stand for

Every DMA semaphore of the kernel completes exactly one transfer, and the barrier semaphore collects one signal from
each of three neighbours. So every semaphore's cell has one round. This module names the resources that the body
moves about (`Res`), says what each means (`res`), and gives the schedule of the cells in terms of them.
-/
module

public import proofs.«01_k».proof.Proof.Geom
public import Idealize.ShloMosaic.Lib.Pipeline.BigSepL

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ghost state of the cells. -/
abbrev UB : Type := URounds (GSem nD τ sig) (Fin 3)
/-- The ghost state: the launch's own and the cells'. -/
abbrev UU : Type := UR sig nD τ × UB

local notation "𝕄" => MT nD τ sig Unit (Elt F) ℕ UU ℕ

/-- Where the launch's part lies. -/
abbrev EP : Emb (UR sig nD τ) (MT nD τ sig Unit (Elt F) ℕ UU ℕ) := embL
/-- Where the cells' part lies. -/
abbrev ER : Emb UB (MT nD τ sig Unit (Elt F) ℕ UU ℕ) := embR

variable (m : (ℓ : Loc nD τ sig) → Buf (Elt F) ℓ)

/-! ## The DMA semaphores by their use -/

/-- What a DMA semaphore completes. -/
inductive Cls where
  | copy
  | flush (κ : Fin 8)
  | send (t : Fin 32)
  | recv (t : Fin 32)
deriving DecidableEq

/-- The use of each DMA semaphore. -/
def cls (q : Fin 73) : Cls :=
  (![.copy, .flush 0, .flush 1, .flush 5, .flush 2, .flush 6, .flush 4, .flush 3, .flush 7, .send 0,
    .send 1, .send 2, .send 3, .recv 0, .recv 1, .recv 2, .recv 3, .send 4, .send 8, .send 12,
    .send 16, .send 5, .send 9, .send 13, .send 17, .send 6, .send 10, .send 7, .send 11, .recv 4,
    .recv 8, .recv 12, .recv 16, .recv 5, .recv 9, .recv 13, .recv 17, .recv 6, .recv 10, .recv 7,
    .recv 11, .send 20, .send 24, .send 21, .send 25, .send 22, .send 26, .send 30, .send 18, .send 23,
    .send 27, .send 31, .send 19, .recv 20, .recv 24, .recv 21, .recv 25, .recv 22, .recv 26, .recv 30,
    .recv 18, .recv 23, .recv 27, .recv 31, .recv 19, .send 14, .send 15, .send 28, .send 29, .recv 14,
    .recv 15, .recv 28, .recv 29] : Fin 73 → Cls) q

/-- The semaphore of a use. -/
def Cls.sem : Cls → DmaSem sig
  | .copy => copySem
  | .flush κ => flushSem κ
  | .send t => sendSem t
  | .recv t => recvSem t

/-- The use of a flush semaphore. -/
theorem cls_flush (κ : Fin 8) : cls (flushSem κ) = .flush κ := by revert κ; decide
/-- The use of a send semaphore. -/
theorem cls_send (t : Fin 32) : cls (sendSem t) = .send t := by revert t; decide
/-- The use of a receive semaphore. -/
theorem cls_recv (t : Fin 32) : cls (recvSem t) = .recv t := by revert t; decide
/-- A use's semaphore has that use. -/
theorem cls_sem : (k : Cls) → cls k.sem = k
  | .copy => rfl
  | .flush κ => cls_flush κ
  | .send t => cls_send t
  | .recv t => cls_recv t
/-- A semaphore is its use's. -/
theorem sem_cls (q : Fin 73) : (cls q).sem = q := by revert q; decide

/-! ## Cells and amounts -/

/-- The cell of a semaphore on a device's TensorCore. -/
abbrev cell (c : Dev nD) (sm : SemLoc sig) : GSem nD τ sig := ((c : Thread nD τ), sm)
/-- The barrier semaphore. -/
abbrev barLoc : SemLoc sig := .reg barSem
/-- A device's barrier. -/
abbrev barCell (c : Dev nD) : GSem nD τ sig := cell c barLoc
/-- The cell of a use. -/
abbrev kcell (c : Dev nD) (k : Cls) : GSem nD τ sig := cell c (.dma k.sem)

/-- The credit of a block. -/
def NB : ℕ := RefSig.tileCredit S128x1024 .bf16
/-- The credit of a chunk in `f32`. -/
def NC : ℕ := RefSig.tileCredit S512x1024 .f32
/-- The credit of a chunk in `bf16`. -/
def NF : ℕ := RefSig.tileCredit S512x1024 .bf16

/-- A TensorCore's view credits by its shape and element type alone. -/
theorem credit_tc {sp : Space} {s : Shape} {e : EltTy} (v : View sig .tc sp s e) : v.dmaCredit = RefSig.tileCredit s e := rfl

/-- The credit of a transfer, by its use. -/
def Cls.amount : Cls → ℕ
  | .copy => NC
  | .flush _ => NF
  | .send _ => NB
  | .recv _ => NB

/-- The credit of a transfer is positive. -/
theorem Cls.amount_pos : (k : Cls) → 0 < k.amount
  | .copy => RefSig.tileCredit_pos _ _ h_S512x1024
  | .flush _ => RefSig.tileCredit_pos _ _ h_S512x1024
  | .send _ => RefSig.tileCredit_pos _ _ h_S128x1024
  | .recv _ => RefSig.tileCredit_pos _ _ h_S128x1024

/-! ## Resources -/

/-- The three shares a gathered block is kept in: for the copy to the result, for a transfer, for a second transfer. -/
def shr (s : Fin 3) : PosShare TreeShare := (![fullShare.left, fullShare.right.left, fullShare.right.right] : Fin 3 → PosShare TreeShare) s

/-- The share that transfer `t` reads its block by. -/
def shrT (t : Fin 32) : Fin 3 := if t.val / 4 = 5 ∨ t = 14 ∨ t = 15 ∨ t = 28 ∨ t = 29 then 2 else 1

/-- The resources of a device. -/
inductive Res where
  /-- The right to complete one of the own cells; the right to complete the receive cell of transfer `t` at its target. -/
  | tok (k : Cls)
  | tokR (t : Fin 32)
  /-- An own cell before its wait; the credit for the wait; the cell after its wait. -/
  | pos (k : Cls)
  | crd (k : Cls)
  | done (k : Cls)
  /-- The place where transfer `t` is to land, on this device and on the target. -/
  | land (t : Fin 32)
  | tland (t : Fin 32)
  /-- Share `s` of the gathered block `t`. -/
  | blk (s : Fin 3) (t : Fin 32)
  /-- The place of the own sum of lane `l`. -/
  | own (l : Fin 4)
  /-- The quarter of lane `l` received from the partner; the quarter of lane `l` to send to the partner. -/
  | p1 (l : Fin 4)
  | ms (l : Fin 4)
  /-- The chunk buffers before they are filled, the own chunk. -/
  | msAny
  | xcAny
  | xcFull
  /-- The own chunk of the argument. -/
  | xin
  /-- Chunk `κ` of the result, before and after. -/
  | oany (κ : Fin 8)
  | odone (κ : Fin 8)
  /-- The right to signal neighbour `i`; the own barrier cell before its wait, the credit, the cell after its wait. -/
  | sigTok (i : Fin 3)
  | posB
  | crdB
  | doneB
deriving DecidableEq

/-- The place where transfer `t` is to land on device `c`, whatever is there. -/
def landPts (c : Dev nD) (t : Fin 32) : sProp 𝕄 :=
  if t.val < 4 then iprop(∃ f, ((c : Thread nD τ).loc cc0_scratch3) ↦[qset (pq c (lane t))]{fullShare} f)
  else iprop(∃ f, ((c : Thread nD τ).loc cc0_scratch0) ↦[bset (pos c t)]{fullShare} f)

/-- What a resource of device `c` is. -/
def res (c : Dev nD) : Res → sProp 𝕄
  | .tok k => dutyTok ER (kcell c k) 0 0
  | .tokR t => dutyTok ER (kcell (tgt c t) (.recv t)) 0 0
  | .pos k => atPos ER (kcell c k) 0 ∅ 0
  | .crd k => cred (tallyAt (kcell c k) () k.amount)
  | .done k => atPos ER (kcell c k) (0 + 1) ∅ 0
  | .land t => landPts c t
  | .tland t => landPts (tgt c t) t
  | .blk s t => ((c : Thread nD τ).loc cc0_scratch0) ↦[bset (pos c t)]{shr s} gF m c
  | .own l => iprop(∃ f, ((c : Thread nD τ).loc cc0_scratch0) ↦[bset (pos c (pT l))]{fullShare} f)
  | .p1 l => ((c : Thread nD τ).loc cc0_scratch3) ↦[qset (pq c l)]{fullShare} p1F m c
  | .ms l => ((c : Thread nD τ).loc cc0_scratch2) ↦[qset (pq (sdev c 0) l)]{fullShare} msF m c
  | .msAny => iprop(∃ f, ((c : Thread nD τ).loc cc0_scratch2) ↦{fullShare} f)
  | .xcAny => iprop(∃ f, ((c : Thread nD τ).loc cc0_scratch1) ↦{fullShare} f)
  | .xcFull => ((c : Thread nD τ).loc cc0_scratch1) ↦{fullShare} xcF m c
  | .xin => ((c : Thread nD τ).loc main_arg0) ↦[cset (chunk c 0)]{fullShare} m ((c : Thread nD τ).loc main_arg0)
  | .oany κ => iprop(∃ f, ((c : Thread nD τ).loc main_v1) ↦[cset (chunk c κ)]{fullShare} f)
  | .odone κ => ((c : Thread nD τ).loc main_v1) ↦[cset (chunk c κ)]{fullShare} gF m c
  | .sigTok i => dutyTok ER (barCell (sdev c i)) 0 (back i)
  | .posB => atPos ER (barCell c) 0 ∅ 0
  | .crdB => cred (tallyAt (barCell c) () 3)
  | .doneB => atPos ER (barCell c) (0 + 1) ∅ 0

/-- The resources of a list. -/
def resL (c : Dev nD) (l : List Res) : sProp 𝕄 := bigSepL l (res m c)

/-- The transfers of direction `j`. -/
def lands (j : Fin 3) : List (Fin 32) := (List.finRange 32).filter fun t => dir t = j

/-- What the completion of a cell gives. -/
def Cls.gives : Cls → List Res
  | .copy => [.xin, .xcFull]
  | .flush κ => [.odone κ, .blk 0 (kl κ 0), .blk 0 (kl κ 1), .blk 0 (kl κ 2), .blk 0 (kl κ 3)]
  | .send t => if t.val < 4 then [.ms (lane t)] else [.blk (shrT t) (srcT t)]
  | .recv t => if t.val < 4 then [.p1 (lane t)] else [.blk 0 t, .blk 1 t, .blk 2 t]

omit [FloatOps F] in
/-- A place may be kept in an invariant. -/
instance landPts_storable (c : Dev nD) (t : Fin 32) : BI.Storable (upEmb : UEmb _ 𝕄) (landPts (F := F) c t) := by
  unfold landPts; split <;> infer_instance

/-- The resources that a cell may hand over. -/
def Res.isMem : Res → Bool
  | .tland _ | .blk _ _ | .p1 _ | .ms _ | .xcFull | .xin | .odone _ => true
  | _ => false

/-- Each resource that a cell hands over may be kept in an invariant. -/
theorem res_storable (c : Dev nD) : (r : Res) → r.isMem = true → BI.Storable (upEmb : UEmb _ 𝕄) (res m c r)
  | .tland t, _ => landPts_storable (tgt c t) t
  | .blk s t, _ => by show BI.Storable _ (iprop(_ ↦[_]{_} _)); infer_instance
  | .p1 l, _ => by show BI.Storable _ (iprop(_ ↦[_]{_} _)); infer_instance
  | .ms l, _ => by show BI.Storable _ (iprop(_ ↦[_]{_} _)); infer_instance
  | .xcFull, _ => by show BI.Storable _ (iprop(_ ↦[_]{_} _)); infer_instance
  | .xin, _ => by show BI.Storable _ (iprop(_ ↦[_]{_} _)); infer_instance
  | .odone κ, _ => by show BI.Storable _ (iprop(_ ↦[_]{_} _)); infer_instance

/-- A list of such resources may be kept in an invariant. -/
theorem resL_storable (c : Dev nD) : (l : List Res) → (∀ r ∈ l, r.isMem = true) → BI.Storable (upEmb : UEmb _ 𝕄) (resL m c l)
  | [], _ => Storable.emp _
  | r :: l, h => by
    unfold resL
    rw [bigSepL_cons']
    haveI := res_storable m c r (h r List.mem_cons_self)
    haveI : BI.Storable (upEmb : UEmb _ 𝕄) (bigSepL l (res m c)) := resL_storable c l fun r' h' => h r' (List.mem_cons_of_mem _ h')
    infer_instance

/-- What a cell hands over is memory. -/
theorem gives_isMem (k : Cls) : ∀ r ∈ k.gives, r.isMem = true := by
  cases k with
  | copy => decide
  | flush κ => intro r hr; simp [Cls.gives] at hr; rcases hr with h | h | h | h | h <;> subst h <;> rfl
  | send t => intro r hr; unfold Cls.gives at hr; dsimp only at hr; split at hr <;> (rw [List.mem_singleton] at hr; subst hr; rfl)
  | recv t =>
    intro r hr; unfold Cls.gives at hr; dsimp only at hr
    split at hr
    · rw [List.mem_singleton] at hr; subst hr; rfl
    · simp at hr; rcases hr with h | h | h <;> subst h <;> rfl

/-! ## The schedule -/

/-- One round for every TensorCore cell: a barrier cell has three duties of one unit, paid by the partner (0), the next
    (1) and the previous device (2), each handing over the places to which this device sends in that direction; a DMA
    cell has the one duty of its transfer. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => (cls q).amount
  payload g _ d := match g.2 with | .reg _ => resL m g.1.1 ((lands d).map .tland) | .dma q => resL m g.1.1 (cls q).gives
  amount_pos g _ _ _ := by
    rcases g with ⟨_, _ | q⟩
    · exact Nat.one_pos
    · exact (cls q).amount_pos

/-- Every payload may be kept in an invariant. -/
instance Rd_payload_storable (g : GSem nD τ sig) (r : ℕ) (d : Fin 3) : BI.Storable (upEmb : UEmb _ 𝕄) ((Rd (F := F) m).payload g r d) := by
  rcases g with ⟨⟨c, p⟩, _ | q⟩
  · refine resL_storable m c ((lands d).map .tland) fun r hr => ?_
    obtain ⟨t, -, rfl⟩ := List.mem_map.mp hr
    rfl
  · exact resL_storable m c (cls q).gives (gives_isMem _)

section Sched
variable (c : Dev nD)

/-- The barrier has three duties. -/
theorem duties_bar : (Rd m).duties (barCell c) 0 = Finset.univ := by dsimp only [Rd]; exact if_pos ⟨rfl, rfl⟩
/-- A transfer's cell has one duty. -/
theorem duties_dma (k : Cls) : (Rd m).duties (kcell c k) 0 = {0} := by dsimp only [Rd]; exact if_pos ⟨rfl, rfl⟩
/-- No cell has any duty after the first round. -/
theorem duties_later (g : GSem nD τ sig) : ∀ r, 1 ≤ r → (Rd m).duties g r = ∅ := fun r hr => by dsimp only [Rd]; exact if_neg fun h => by omega
/-- A signal counts as one unit. -/
theorem amount_bar (d : Fin 3) : (Rd m).amount (barCell c) 0 d = 1 := rfl
/-- A transfer counts as its credit. -/
theorem amount_dma (k : Cls) (d : Fin 3) : (Rd m).amount (kcell c k) 0 d = k.amount := congrArg Cls.amount (cls_sem k)
/-- What a signal hands over. -/
theorem payload_bar (d : Fin 3) : (Rd m).payload (barCell c) 0 d = resL m c ((lands d).map .tland) := rfl
/-- What a transfer hands over. -/
theorem payload_dma (k : Cls) (d : Fin 3) : (Rd m).payload (kcell c k) 0 d = resL m c k.gives := congrArg (fun k => resL m c (Cls.gives k)) (cls_sem k)

/-- The barrier waits for three units. -/
theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
/-- A transfer's cell waits for its credit. -/
theorem expect_dma (k : Cls) : (Rd m).expect (kcell c k) 0 = k.amount := by
  unfold Schedule.expect Schedule.amountOf; rw [duties_dma, Finset.sum_singleton, amount_dma]

/-- What the wait on a DMA cell takes. -/
theorem rest_dma (k : Cls) : bigSep ((Rd m).duties (kcell c k) 0 \ ∅) (fun d => (Rd m).payload (kcell c k) 0 d) = resL m c k.gives := by
  rw [Finset.sdiff_empty, duties_dma, bigSep_singleton, payload_dma]
/-- What the wait on the barrier takes. -/
theorem rest_bar : bigSep ((Rd m).duties (barCell c) 0 \ ∅) (fun d => (Rd m).payload (barCell c) 0 d)
    = resL m c (((lands 0 ++ lands 1 ++ lands 2)).map .tland) := by
  rw [Finset.sdiff_empty, duties_bar, bigSep_univ_eq_bigSepL [0, 1, 2] (by decide) (by decide)]
  unfold resL
  rw [List.map_append, List.map_append, bigSepL_append, bigSepL_append]
  refine (show _ = iprop(_ ∗ (_ ∗ _)) from rfl).trans (equiv_iff.mp ⟨sep_assoc', sep_assoc⟩)

end Sched

/-! ## What is owed, and the levels -/

/-- The level of a receive cell: later stages lie higher. -/
def lvT (t : Fin 32) : ℕ := if t = 14 ∨ t = 15 ∨ t = 28 ∨ t = 29 then 7 else (![2, 3, 4, 5, 6, 3, 4, 5] : Fin 8 → ℕ) (stg t)
/-- The level of a semaphore. -/
def lvS (sm : SemLoc sig) : ℕ := match sm with
  | .reg _ => 1
  | .dma q => match cls q with
    | .recv t => lvT t
    | _ => 0
/-- The indices of a cell: one for a TensorCore's. -/
def L (g : GSem nD τ sig) : Finset Unit := if g.1.2 = .tc then {()} else ∅
/-- The level of a cell. -/
def lv (g : GSem nD τ sig) (_ : Unit) : ℕ := lvS g.2

/-- A cell that is on no TensorCore has no index. -/
theorem L_of_ne (g : GSem nD τ sig) (h : g.1.2 ≠ .tc) : L g = ∅ := if_neg h
/-- A cell of a TensorCore has the one index. -/
theorem L_tc (c : Dev nD) (sm : SemLoc sig) : L ((c : Thread nD τ), sm) = {()} := if_pos rfl

end Cert.RingProof

end
-- ==== Proof.Body.lean ====
/-
# `Body`: what each step needs and gives

Every step of the body takes some of the device's resources and gives others (`Step.needs`, `Step.gives`). This
module proves one rule per kind of step, from the rules of the cells and of the vector accesses.
-/
module

public import proofs.«01_k».proof.Proof.Cells

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No effect of the body varies. -/
abbrev 𝒱₀ : Variants := Variants.none

/-- The body's program `p` runs on device `c` to `Q`. -/
abbrev WP (c : Dev nD) (p : BProg F) (Q : PUnit → sProp 𝕄) : sProp 𝕄 :=
  wp frame (wpE (defs₀ (F := F)) 𝒱₀ (c : Thread nD τ) none) Set.univ p Q

/-! ## Lists of resources -/

/-- No resource. -/
theorem resL_nil (c : Dev nD) : resL m c [] = iprop(emp) := rfl
/-- A first resource and the others. -/
theorem resL_cons (c : Dev nD) (r : Res) (l : List Res) : resL m c (r :: l) = iprop(res m c r ∗ resL m c l) := bigSepL_cons _ _ _
/-- A single resource. -/
theorem resL_one (c : Dev nD) (r : Res) : resL m c [r] = res m c r := rfl
/-- The resources of two lists. -/
theorem resL_append (c : Dev nD) (l l' : List Res) : resL m c (l ++ l') = iprop(resL m c l ∗ resL m c l') := bigSepL_append _ _ _

/-! What some of the resources are, spelled out. -/

section Spell
variable (c : Dev nD)
/-- The buffer of the own chunk, at any contents. -/
theorem res_xcAny : res m c .xcAny = iprop(∃ f, ((c : Thread nD τ).loc cc0_scratch1) ↦{fullShare} f) := rfl
/-- The buffer of the rounded chunk, at any contents. -/
theorem res_msAny : res m c .msAny = iprop(∃ f, ((c : Thread nD τ).loc cc0_scratch2) ↦{fullShare} f) := rfl
/-- The buffer of the own chunk, filled. -/
theorem res_xcFull : res m c .xcFull = iprop(((c : Thread nD τ).loc cc0_scratch1) ↦{fullShare} xcF m c) := rfl
/-- The own chunk of the argument. -/
theorem res_xin : res m c .xin = iprop(((c : Thread nD τ).loc main_arg0) ↦[cset (chunk c 0)]{fullShare} m ((c : Thread nD τ).loc main_arg0)) := rfl
/-- A chunk of the result, at any contents. -/
theorem res_oany (κ : Fin 8) : res m c (.oany κ) = iprop(∃ f, ((c : Thread nD τ).loc main_v1) ↦[cset (chunk c κ)]{fullShare} f) := rfl
/-- A chunk of the result, written. -/
theorem res_odone (κ : Fin 8) : res m c (.odone κ) = iprop(((c : Thread nD τ).loc main_v1) ↦[cset (chunk c κ)]{fullShare} gF m c) := rfl
/-- The place of an own sum, at any contents. -/
theorem res_own (l : Fin 4) : res m c (.own l) = iprop(∃ f, ((c : Thread nD τ).loc cc0_scratch0) ↦[bset (pos c (pT l))]{fullShare} f) := rfl
/-- A quarter from the partner, landed. -/
theorem res_p1 (l : Fin 4) : res m c (.p1 l) = iprop(((c : Thread nD τ).loc cc0_scratch3) ↦[qset (pq c l)]{fullShare} p1F m c) := rfl
/-- A quarter for the partner, rounded. -/
theorem res_ms (l : Fin 4) : res m c (.ms l) = iprop(((c : Thread nD τ).loc cc0_scratch2) ↦[qset (pq (sdev c 0) l)]{fullShare} msF m c) := rfl
/-- One share of a block of the gathering buffer, filled. -/
theorem res_blk (s : Fin 3) (t : Fin 32) : res m c (.blk s t) = iprop(((c : Thread nD τ).loc cc0_scratch0) ↦[bset (pos c t)]{shr s} gF m c) := rfl
/-- The right to signal a neighbour. -/
theorem res_sigTok (i : Fin 3) : res m c (.sigTok i) = dutyTok ER (barCell (sdev c i)) 0 (back i) := rfl
/-- The right to complete an own cell. -/
theorem res_tok (k : Cls) : res m c (.tok k) = dutyTok ER (kcell c k) 0 0 := rfl
/-- The right to complete the receive cell of a transfer, on the device it goes to. -/
theorem res_tokR (t : Fin 32) : res m c (.tokR t) = dutyTok ER (kcell (tgt c t) (.recv t)) 0 0 := rfl
/-- A cell before its round. -/
theorem res_pos (k : Cls) : res m c (.pos k) = atPos ER (kcell c k) 0 ∅ 0 := rfl
/-- The credit for a wait. -/
theorem res_crd (k : Cls) : res m c (.crd k) = cred (tallyAt (kcell c k) () k.amount) := rfl
/-- A cell after its round. -/
theorem res_done (k : Cls) : res m c (.done k) = atPos ER (kcell c k) (0 + 1) ∅ 0 := rfl
/-- The barrier before its round. -/
theorem res_posB : res m c .posB = atPos ER (barCell c) 0 ∅ 0 := rfl
/-- The credit for the barrier. -/
theorem res_crdB : res m c .crdB = cred (tallyAt (barCell c) () 3) := rfl
/-- The barrier after its round. -/
theorem res_doneB : res m c .doneB = atPos ER (barCell c) (0 + 1) ∅ 0 := rfl
/-- The place of a transfer that comes in. -/
theorem res_land (t : Fin 32) : res m c (.land t) = landPts c t := rfl
/-- The place, on another device, of a transfer that goes out. -/
theorem res_tland (t : Fin 32) : res m c (.tland t) = landPts (tgt c t) t := rfl
end Spell

/-! ## The records: every cell's invariant, and that its round is open -/

/-- The invariants of all cells under the names `K`, and that every cell has reached its round. -/
def recs (K : Dev nD × SemLoc sig → ℕ) : sProp 𝕄 :=
  iprop((bigSep Finset.univ fun x : Dev nD × SemLoc sig => cellInv ER (Rd m) (K x) (cell x.1 x.2))
    ∗ bigSep Finset.univ fun x : Dev nD × SemLoc sig => reached ER (cell x.1 x.2) 0)

/-- The records can be used again and again. -/
instance recs_persistent (K : Dev nD × SemLoc sig → ℕ) : BI.Persistent (recs m K) := by unfold recs; infer_instance

/-- One invariant out of all. -/
theorem inv_elim (K : Dev nD × SemLoc sig → ℕ) (x : Dev nD × SemLoc sig) :
    (bigSep Finset.univ fun x : Dev nD × SemLoc sig => (cellInv ER (Rd m) (K x) (cell x.1 x.2) : sProp 𝕄)) ⊢ cellInv ER (Rd m) (K x) (cell x.1 x.2) :=
  bigSep_elim (Finset.mem_univ x)
omit [FloatOps F] in
/-- One reached round out of all. -/
theorem reached_elim (x : Dev nD × SemLoc sig) :
    (bigSep Finset.univ fun x : Dev nD × SemLoc sig => (reached ER (cell x.1 x.2) 0 : sProp 𝕄)) ⊢ reached ER (cell x.1 x.2) 0 :=
  bigSep_elim (Finset.mem_univ x)

/-- The invariant of a cell, from the records. -/
theorem recs_inv (K : Dev nD × SemLoc sig → ℕ) (c : Dev nD) (sm : SemLoc sig) : recs m K ⊢ cellInv ER (Rd m) (K (c, sm)) (cell c sm) := by
  unfold recs
  iintro ⟨H, -⟩
  iapply (inv_elim m K (c, sm))
  iexact H
/-- The round of a cell is open, from the records. -/
theorem recs_reached (K : Dev nD × SemLoc sig → ℕ) (c : Dev nD) (sm : SemLoc sig) : recs m K ⊢ reached ER (cell c sm) 0 := by
  unfold recs
  iintro ⟨-, H⟩
  iapply (reached_elim (F := F) (c, sm))
  iexact H

/-! ## The rules of the cells -/

section Rules

variable (K : Dev nD × SemLoc sig → ℕ) (c : Dev nD) (p : BProg F) (Q : PUnit.{1} → sProp (MT nD τ sig Unit (Elt F) ℕ UU ℕ))

/-- A transfer's cell has the duty 0. -/
theorem mem_dma (k : Cls) : (0 : Fin 3) ∈ (Rd m).duties (kcell c k) 0 := by rw [duties_dma]; exact Finset.mem_singleton_self _

/-- A copy within the device that completes on cell `k`. -/
theorem wp_copyK (k : Cls) {sp sp' : Space} {s : Shape} {e : EltTy} {src : Memref sig .tc sp s e} {dst : Memref sig .tc sp' s e}
    {hsrc : src.view.WordExact} {hdst : dst.view.WordExact} {hsem : DmaTarget.Typed (nD := nD) sp (.dma k.sem) (DmaTarget.here (nD := nD) (τ := τ) (p := .tc) dst)}
    {q : PosShare TreeShare} {S : Finset (Idx (src.view.loc (c : Thread nD τ)))} {T : Finset (Idx (dst.view.loc (c : Thread nD τ)))}
    {fs : Buf (Elt F) (src.view.loc (c : Thread nD τ))} {fd : Buf (Elt F) (dst.view.loc (c : Thread nD τ))}
    (hS : src.view.set = S) (hT : dst.view.set = T) (hN : dst.view.amount (.dma k.sem) = k.amount)
    (hpay : iprop((dst.view.loc (c : Thread nD τ) ↦[T]{fullShare} (dst.view.write (Elt F) fd (src.view.read (Elt F) fs) Finset.univ))
        ∗ (src.view.loc (c : Thread nD τ) ↦[S]{q} fs)) ⊢ resL m c k.gives) :
    iprop(recs m K ∗ (src.view.loc (c : Thread nD τ) ↦[S]{q} fs) ∗ (dst.view.loc (c : Thread nD τ) ↦[T]{fullShare} fd) ∗ res m c (.tok k))
      ⊢ iprop((res m c (.crd k) -∗ WP c p Q)
        -∗ WP c (.op (.enqueueDma src (.here dst) (.dma k.sem) hsrc hdst hsem) fun _ => p) Q) := by
  subst hS hT
  simp only [res_tok, res_tokR, res_crd]
  iintro ⟨#HR, Hs, Hd, Ht⟩ Hk
  iapply (Rounds.wp_copy_pointsTo 𝒱₀ ER (Rd m) (c : Thread nD τ) none (κ := K (c, .dma k.sem)) (r := 0) (d := 0)
    (mem_dma m c k) () k.amount hN (amount_dma m c k 0) (by rw [payload_dma]; exact hpay)) $$ [Hs Hd Ht]
  · isplitr; · iapply (recs_inv m K c (.dma k.sem)); iexact HR
    isplitl [Hs]; · iexact Hs
    isplitl [Hd]; · iexact Hd
    isplitl [Ht]; · iexact Ht
    iapply (recs_reached m K c (.dma k.sem)); iexact HR
  iexact Hk

/-- What transfer `t` adds to the credits of its target. -/
abbrev owedT (t : Fin 32) : CellTallies nD τ sig Unit := tallyAt (kcell (tgt c t) (.recv t)) () NB

/-- Transfer `t`. -/
theorem wp_sendT (t : Fin 32) {src dst : Memref sig .tc .vmem S128x1024 .bf16} {hsrc : src.view.WordExact} {hdst : dst.view.WordExact}
    {q : PosShare TreeShare} {S : Finset (Idx (src.view.loc (c : Thread nD τ)))} {T : Finset (Idx (dst.view.loc (tgt c t : Thread nD τ)))}
    {fs : Buf (Elt F) (src.view.loc (c : Thread nD τ))} {fd : Buf (Elt F) (dst.view.loc (tgt c t : Thread nD τ))}
    (O : CellTallies nD τ sig Unit) (W : Waits sig Unit)
    (hS : src.view.set = S) (hT : dst.view.set = T) (hN : dst.view.amount (.dma (recvSem t)) = NB)
    (hpay₁ : (src.view.loc (c : Thread nD τ) ↦[S]{q} fs) ⊢ resL m c (Cls.send t).gives)
    (hpay₂ : (dst.view.loc (tgt c t : Thread nD τ) ↦[T]{fullShare} (dst.view.write (Elt F) fd (src.view.read (Elt F) fs) Finset.univ))
      ⊢ resL m (tgt c t) (Cls.recv t).gives) :
    iprop(recs m K ∗ owes (c : Thread nD τ) (O + owedT c t) W
        ∗ (src.view.loc (c : Thread nD τ) ↦[S]{q} fs) ∗ (dst.view.loc (tgt c t : Thread nD τ) ↦[T]{fullShare} fd)
        ∗ res m c (.tok (.send t)) ∗ res m c (.tokR t))
      ⊢ iprop(((res m c (.crd (.send t)) ∗ owes (c : Thread nD τ) O W) -∗ WP c p Q)
        -∗ WP c (remoteSend src dst (tgt c t) (sendSem t) (recvSem t) hsrc hdst p) Q) := by
  subst hS hT
  simp only [res_tok, res_tokR, res_crd]
  iintro ⟨#HR, HO, Hs, Hd, Ht, HtR⟩ Hk
  iapply (Rounds.wp_send_pointsTo 𝒱₀ ER (Rd m) (c : Thread nD τ) none (c' := (tgt c t : Thread nD τ))
    (κ₁ := K (c, .dma (sendSem t))) (κ₂ := K (tgt c t, .dma (recvSem t)))
    (r₁ := 0) (r₂ := 0) (d₁ := 0) (d₂ := 0) (mem_dma m c (.send t))
    (mem_dma m (tgt c t) (.recv t))
    () () NB hN (amount_dma m c (.send t) 0) (amount_dma m (tgt c t) (.recv t) 0) O rfl (W := W)
    (hpay₁.trans (Entails.of_eq (payload_dma m c (.send t) 0).symm)) (hpay₂.trans (Entails.of_eq (payload_dma m (tgt c t) (.recv t) 0).symm))) $$ [HO Hs Hd Ht HtR]
  · isplitr; · iapply (recs_inv m K c (.dma (sendSem t))); iexact HR
    isplitr; · iapply (recs_inv m K (tgt c t) (.dma (recvSem t))); iexact HR
    isplitl [Hs]; · iexact Hs
    isplitl [Hd]; · iexact Hd
    isplitl [HO]; · iexact HO
    isplitl [Ht]; · iexact Ht
    isplitr; · iapply (recs_reached m K c (.dma (sendSem t))); iexact HR
    isplitl [HtR]; · iexact HtR
    iapply (recs_reached m K (tgt c t) (.dma (recvSem t))); iexact HR
  iexact Hk

/-- The wait on cell `k`. -/
theorem wp_waitK (k : Cls) {sp sp' : Space} {s s' : Shape} {e e' : EltTy} {src : Memref sig .tc sp' s' e'} {dst : Memref sig .tc sp s e}
    {hsrc : src.view.WordExact} {hdst : dst.view.WordExact} (hN : dst.view.dmaCredit = k.amount)
    (O : CellTallies nD τ sig Unit) (W : Waits sig Unit) (hw : (levAts L lv : sProp 𝕄) ⊢ MayWait (c : Thread nD τ) (.dma k.sem) () O) :
    iprop(recs m K ∗ levAts L lv ∗ owes (c : Thread nD τ) O W ∗ resL m c [.pos k, .crd k])
      ⊢ iprop((∀ W' : Waits sig Unit, (owes (c : Thread nD τ) O W' -∗ (resL m c (.done k :: k.gives) -∗ WP c p Q)))
        -∗ WP c (.op (.waitDma2 k.sem src dst hsrc hdst) fun _ => p) Q) := by
  simp only [resL_cons, resL_nil, res_pos, res_crd, res_done]
  iintro ⟨#HR, #HL, HO, Hat, Hc, -⟩ Hk
  iapply (Rounds.wp_wait_rest_token 𝒱₀ ER (Rd m) (c : Thread nD τ) none (κ := K (c, .dma k.sem))
    (wpE_waitDma2_eq 𝒱₀ (c : Thread nD τ) none Set.univ) (Set.mem_univ _) () (O := O) (W := W) (R := 0) (m := 0) (T := ∅)
    (by rw [Nat.zero_add, hN]; exact (expect_dma m c k).symm)) $$ [HO Hat Hc]
  · isplitr; · iapply (recs_inv m K c (.dma k.sem)); iexact HR
    isplitl [Hc]; · rw [hN]; iexact Hc
    isplitl [HO]; · iexact HO
    isplitr; · iapply hw; iexact HL
    iexact Hat
  iintro ⟨HO, Hat, -, Hpay⟩
  ihave Hp := (Entails.of_eq (rest_dma m c k)) $$ Hpay
  iapply Hk $$ %_ HO
  isplitl [Hat]; · iexact Hat
  iexact Hp

end Rules

/-! ## Needs and gives -/

/-- The semaphore a step waits on. -/
def Step.wait : Step → Option (SemLoc Cert.KernelIdeal.sig)
  | .waitBar => some barLoc
  | .waitCopy => some (.dma (Cls.sem .copy))
  | .waitP l => some (.dma (Cls.sem (.recv (pT l))))
  | .waitRecv t => some (.dma (Cls.sem (.recv t)))
  | .waitSentP l => some (.dma (Cls.sem (.send (pT l))))
  | .waitSent t => some (.dma (Cls.sem (.send t)))
  | .waitFlush κ => some (.dma (Cls.sem (.flush κ)))
  | _ => none

/-- The resources a step needs. -/
def Step.needs : Step → List Res
  | .copyIn => [.tok .copy, .xin, .xcAny]
  | .sig i => .sigTok i :: (lands (back i)).map .land
  | .waitBar => [.posB, .crdB]
  | .waitCopy => [.pos .copy, .crd .copy]
  | .cast => [.xcFull, .msAny]
  | .sendP l => [.tok (.send (pT l)), .tokR (pT l), .tland (pT l), .ms l]
  | .waitP l => [.pos (.recv (pT l)), .crd (.recv (pT l))]
  | .reduce l => [.xcFull, .p1 l, .own l]
  | .send t => [.tok (.send t), .tokR t, .tland t, .blk (shrT t) (srcT t)]
  | .waitRecv t => [.pos (.recv t), .crd (.recv t)]
  | .flush κ => [.tok (.flush κ), .oany κ, .blk 0 (kl κ 0), .blk 0 (kl κ 1), .blk 0 (kl κ 2), .blk 0 (kl κ 3)]
  | .waitSentP l => [.pos (.send (pT l)), .crd (.send (pT l))]
  | .waitSent t => [.pos (.send t), .crd (.send t)]
  | .waitFlush κ => [.pos (.flush κ), .crd (.flush κ)]

/-- The resources a step gives. -/
def Step.gives : Step → List Res
  | .copyIn => [.crd .copy]
  | .sig _ => []
  | .waitBar => .doneB :: (lands 0 ++ lands 1 ++ lands 2).map .tland
  | .waitCopy => .done .copy :: Cls.gives .copy
  | .cast => [.xcFull, .ms 0, .ms 1, .ms 2, .ms 3]
  | .sendP l => [.crd (.send (pT l))]
  | .waitP l => .done (.recv (pT l)) :: (Cls.recv (pT l)).gives
  | .reduce l => [.xcFull, .p1 l, .blk 0 (pT l), .blk 1 (pT l), .blk 2 (pT l)]
  | .send t => [.crd (.send t)]
  | .waitRecv t => .done (.recv t) :: (Cls.recv t).gives
  | .flush κ => [.crd (.flush κ)]
  | .waitSentP l => .done (.send (pT l)) :: (Cls.send (pT l)).gives
  | .waitSent t => .done (.send t) :: (Cls.send t).gives
  | .waitFlush κ => .done (.flush κ) :: (Cls.flush κ).gives

/-- What a step pays of what the device owes. -/
def Step.owed (c : Dev nD) : Step → CellTallies nD τ Cert.KernelIdeal.sig Unit
  | .sig i => tallyAt (barCell (sdev c i)) () 1
  | .sendP l => owedT c (pT l)
  | .send t => owedT c t
  | _ => 0

/-- A block's transfer is one after the exchange with the partner. -/
def Step.ok : Step → Bool
  | .send t => 4 ≤ t.val
  | _ => true

/-- The rule of a step: with its needs and what it pays, it runs and gives. -/
def StepRule (s : Step) : Prop :=
  ∀ (K : Dev nD × SemLoc sig → ℕ) (c : Dev nD) (O : CellTallies nD τ sig Unit) (W : Waits sig Unit) (p : BProg F) (Q : PUnit → sProp 𝕄),
    (∀ sm, s.wait = some sm → (levAts L lv : sProp 𝕄) ⊢ MayWait (c : Thread nD τ) sm () O) →
    iprop(recs m K ∗ levAts L lv ∗ owes (c : Thread nD τ) (O + s.owed c) W ∗ resL m c s.needs)
      ⊢ iprop((∀ W' : Waits sig Unit, (owes (c : Thread nD τ) O W' -∗ (resL m c s.gives -∗ WP c p Q))) -∗ WP c (s.prog c p) Q)

/-! ## Splitting and joining -/

/-- The own gathering buffer's chunk is its four blocks. -/
theorem gath_chunk (c : Dev nD) (κ : Fin 8) (q : PosShare TreeShare) (f : Buf (Elt F) ((c : Thread nD τ).loc cc0_scratch0)) :
    ((((c : Thread nD τ).loc cc0_scratch0) ↦[cset (chunk c κ)]{q} f) : sProp 𝕄)
      = iprop((((c : Thread nD τ).loc cc0_scratch0) ↦[bset (pos c (kl κ 0))]{q} f) ∗ (((c : Thread nD τ).loc cc0_scratch0) ↦[bset (pos c (kl κ 1))]{q} f)
        ∗ (((c : Thread nD τ).loc cc0_scratch0) ↦[bset (pos c (kl κ 2))]{q} f) ∗ (((c : Thread nD τ).loc cc0_scratch0) ↦[bset (pos c (kl κ 3))]{q} f)) := by
  rw [← cset_blocks c κ]
  refine (pointsTo_biUnion (ℓ := (c : Thread nD τ).loc cc0_scratch0) Finset.univ (fun l => bset (pos c (kl κ l))) fun l _ l' _ h => bset_disj c fun h' => h ?_).trans ?_
  · exact Fin.ext (by have := congrArg Fin.val h'; simp only [kl] at this; omega)
  · exact bigSep_univ_eq_bigSepL [0, 1, 2, 3] (by decide) (by decide) _

/-- A chunk buffer is its four quarters. -/
theorem quarters (c d : Dev nD) (q : PosShare TreeShare) (f : Buf (Elt F) ((c : Thread nD τ).loc cc0_scratch2)) :
    ((((c : Thread nD τ).loc cc0_scratch2) ↦{q} f) : sProp 𝕄)
      = iprop((((c : Thread nD τ).loc cc0_scratch2) ↦[qset (pq d 0)]{q} f) ∗ (((c : Thread nD τ).loc cc0_scratch2) ↦[qset (pq d 1)]{q} f)
        ∗ (((c : Thread nD τ).loc cc0_scratch2) ↦[qset (pq d 2)]{q} f) ∗ (((c : Thread nD τ).loc cc0_scratch2) ↦[qset (pq d 3)]{q} f)) := by
  refine (congrArg (fun S => ((((c : Thread nD τ).loc cc0_scratch2) ↦[S]{q} f) : sProp 𝕄)) (qset_all d).symm).trans ?_
  refine (pointsTo_biUnion (ℓ := (c : Thread nD τ).loc cc0_scratch2) Finset.univ (fun l => qset (pq d l)) fun l _ l' _ h => qset_disj d h).trans ?_
  exact bigSep_univ_eq_bigSepL [0, 1, 2, 3] (by decide) (by decide) _

/-- A gathered block held in full is its three shares. -/
theorem blk_shares (c : Dev nD) (t : Fin 32) :
    ((((c : Thread nD τ).loc cc0_scratch0) ↦[bset (pos c t)]{fullShare} gF m c) : sProp 𝕄) ⊣⊢ resL m c [.blk 0 t, .blk 1 t, .blk 2 t] := by
  have h1 := pointsTo_share (Ix := Unit) (Name := ℕ) (U := UU) (Lvl := ℕ) (ℓ := (c : Thread nD τ).loc cc0_scratch0) (I := bset (pos c t)) (f := gF m c) (PosShare.mem_left_op_right fullShare)
  have h2 := pointsTo_share (Ix := Unit) (Name := ℕ) (U := UU) (Lvl := ℕ) (ℓ := (c : Thread nD τ).loc cc0_scratch0) (I := bset (pos c t)) (f := gF m c) (PosShare.mem_left_op_right fullShare.right)
  constructor
  · exact h1.1.trans (sep_mono_right h2.1)
  · exact (sep_mono_right h2.2).trans h1.2

/-! ## The rules of the steps -/

/-- Starting the copy of the own chunk. -/
theorem rule_copyIn : StepRule m .copyIn := by
  intro K c O W p Q _
  simp only [Step.needs, Step.gives, Step.owed, resL_cons, resL_nil, res_xcAny, res_msAny, res_xcFull, res_xin, res_oany, res_odone, res_own, res_p1, res_ms, res_blk, res_sigTok, res_posB, res_crdB, res_doneB, add_zero]
  iintro ⟨#HR, #HL, HO, Ht, Hx, ⟨%f, Hc⟩, -⟩ Hk
  iapply (wp_copyK m K c (Q := Q) (p := p) (k := .copy) (src := xchunk c) (dst := mC) (q := fullShare) (S := cset (chunk c 0)) (T := Finset.univ)
    (fs := m ((c : Thread nD τ).loc main_arg0)) (fd := f) (xchunk_set c) (View.set_whole _) (credit_tc _) (by
      show _ ⊢ resL m c [.xin, .xcFull]
      simp only [resL_cons, resL_nil, res_xin, res_xcFull]
      iintro ⟨H1, H2⟩
      isplitl [H2]; · iexact H2
      isplitl
      · iapply (Entails.of_eq (pointsTo_congr (ℓ := (c : Thread nD τ).loc cc0_scratch1) (I := Finset.univ) (g := xcF m c)
          (fun i _ => congrFun (View.write_whole_univ cc0_scratch1 f _) i)))
        iexact H1
      · iempintro)) $$ [Hx Hc Ht]
  · isplitr; · iexact HR
    isplitl [Hx]; · iexact Hx
    isplitl [Hc]; · iexact Hc
    iexact Ht
  iintro Hc
  iapply Hk $$ %_ HO
  isplitl; · iexact Hc
  iempintro

/-- Signalling a neighbour: it gets the places to which it will send. -/
theorem rule_sig (i : Fin 3) : StepRule m (.sig i) := by
  intro K c O W p Q _
  simp only [Step.needs, Step.gives, Step.owed, resL_cons, resL_nil, res_xcAny, res_msAny, res_xcFull, res_xin, res_oany, res_odone, res_own, res_p1, res_ms, res_blk, res_sigTok, res_posB, res_crdB, res_doneB]
  iintro ⟨#HR, #HL, HO, Ht, Hl⟩ Hk
  have hp : resL m c ((lands (back i)).map .land) = (Rd m).payload (barCell (sdev c i)) 0 (back i) := by
    rw [payload_bar]
    unfold resL
    rw [bigSepL_map, bigSepL_map]
    refine equiv_iff.mp ⟨bigSepL_mono fun t ht => ?_, bigSepL_mono fun t ht => ?_⟩ <;>
    · have hd : dir t = back i := by simpa [lands] using ht
      have : tgt (sdev c i) t = c := by rw [tgt_eq, hd, sdev_back]
      rw [res_land, res_tland, this]
  iapply (Rounds.wp_signal 𝒱₀ ER (Rd m) (c : Thread nD τ) none (dst := (sdev c i : Thread nD τ)) (κ := K (sdev c i, barLoc))
      (d := back i) (by rw [show (((sdev c i : Dev nD) : Thread nD τ), SemLoc.reg barSem) = barCell (sdev c i) from rfl, duties_bar]; exact Finset.mem_univ _)
      ((amount_bar m (sdev c i) (back i)).trans (by decide)) () O rfl) $$ [HO Ht Hl]
  · isplitr; · iapply (recs_inv m K (sdev c i) barLoc); iexact HR
    isplitl [HO]; · iexact HO
    isplitl [Ht]; · iexact Ht
    isplitl [Hl]; · iapply (Entails.of_eq hp); iexact Hl
    iapply (recs_reached m K (sdev c i) barLoc); iexact HR
  iintro HO
  iapply Hk $$ %_ HO
  iempintro

/-- Waiting for the three neighbours: the places on them come in. -/
theorem rule_waitBar : StepRule m .waitBar := by
  intro K c O W p Q hw
  simp only [Step.needs, Step.gives, Step.owed, resL_cons, resL_nil, res_xcAny, res_msAny, res_xcFull, res_xin, res_oany, res_odone, res_own, res_p1, res_ms, res_blk, res_sigTok, res_posB, res_crdB, res_doneB, add_zero]
  iintro ⟨#HR, #HL, HO, Hat, Hc, -⟩ Hk
  iapply (Rounds.wp_wait_rest_token 𝒱₀ ER (Rd m) (c : Thread nD τ) none (κ := K (c, barLoc))
    (wpE_semWait_eq 𝒱₀ (c : Thread nD τ) none Set.univ) (Set.mem_univ _) () (O := O) (W := W) (R := 0) (m := 0) (T := ∅)
    (by rw [expect_bar m c]; decide)) $$ [HO Hat Hc]
  · isplitr; · iapply (recs_inv m K c barLoc); iexact HR
    isplitl [Hc]; · iexact Hc
    isplitl [HO]; · iexact HO
    isplitr; · iapply (hw barLoc rfl); iexact HL
    iexact Hat
  iintro ⟨HO, Hat, -, Hpay⟩
  ihave Hp := (Entails.of_eq (rest_bar m c)) $$ Hpay
  iapply Hk $$ %_ HO
  isplitl [Hat]; · iexact Hat
  iexact Hp

/-- A wait on a DMA cell follows from the rule of the cell. -/
theorem rule_wait {s : Step} (k : Cls) (hn : s.needs = [.pos k, .crd k]) (hg : s.gives = .done k :: k.gives) (hwt : s.wait = some (.dma k.sem))
    (ho : ∀ c, s.owed c = 0)
    (h : ∀ (K : Dev nD × SemLoc sig → ℕ) (c : Dev nD) (O : CellTallies nD τ sig Unit) (W : Waits sig Unit) (p : BProg F) (Q : PUnit → sProp 𝕄),
      ((levAts L lv : sProp 𝕄) ⊢ MayWait (c : Thread nD τ) (.dma k.sem) () O) →
      iprop(recs m K ∗ levAts L lv ∗ owes (c : Thread nD τ) O W ∗ resL m c [.pos k, .crd k])
        ⊢ iprop((∀ W' : Waits sig Unit, (owes (c : Thread nD τ) O W' -∗ (resL m c (.done k :: k.gives) -∗ WP c p Q))) -∗ WP c (s.prog c p) Q)) : StepRule m s := by
  intro K c O W p Q hw
  rw [hn, hg, ho, add_zero]
  exact h K c O W p Q (hw _ hwt)

/-- Waiting for the own chunk. -/
theorem rule_waitCopy : StepRule m .waitCopy :=
  rule_wait m .copy rfl rfl rfl (fun _ => rfl) fun K c O W p Q hw => wp_waitK m K c (Q := Q) (p := p) (k := .copy) (credit_tc _) O W hw
/-- Waiting for a quarter from the partner. -/
theorem rule_waitP (l : Fin 4) : StepRule m (.waitP l) :=
  rule_wait m (.recv (pT l)) rfl rfl rfl (fun _ => rfl) fun K c O W p Q hw => wp_waitK m K c (Q := Q) (p := p) (k := (.recv (pT l))) (credit_tc _) O W hw
/-- Waiting for a block. -/
theorem rule_waitRecv (t : Fin 32) : StepRule m (.waitRecv t) :=
  rule_wait m (.recv t) rfl rfl rfl (fun _ => rfl) fun K c O W p Q hw => wp_waitK m K c (Q := Q) (p := p) (k := (.recv t)) (credit_tc _) O W hw
/-- Waiting until a quarter has left. -/
theorem rule_waitSentP (l : Fin 4) : StepRule m (.waitSentP l) :=
  rule_wait m (.send (pT l)) rfl rfl rfl (fun _ => rfl) fun K c O W p Q hw => wp_waitK m K c (Q := Q) (p := p) (k := (.send (pT l))) (credit_tc _) O W hw
/-- Waiting until a block has left. -/
theorem rule_waitSent (t : Fin 32) : StepRule m (.waitSent t) :=
  rule_wait m (.send t) rfl rfl rfl (fun _ => rfl) fun K c O W p Q hw => wp_waitK m K c (Q := Q) (p := p) (k := (.send t)) (credit_tc _) O W hw
/-- Waiting until a chunk has been written. -/
theorem rule_waitFlush (κ : Fin 8) : StepRule m (.waitFlush κ) :=
  rule_wait m (.flush κ) rfl rfl rfl (fun _ => rfl) fun K c O W p Q hw => wp_waitK m K c (Q := Q) (p := p) (k := (.flush κ)) (credit_tc _) O W hw

/-- The offset zero. -/
theorem zz : (![0, 0] : Fin 2 → Nat) = fun _ => 0 := funext fun a => by fin_cases a <;> rfl

/-- Rounding the own chunk, which then falls into quarters. -/
theorem rule_cast : StepRule m .cast := by
  intro K c O W p Q _
  simp only [Step.needs, Step.gives, Step.owed, resL_cons, resL_nil, res_xcAny, res_msAny, res_xcFull, res_xin, res_oany, res_odone, res_own, res_p1, res_ms, res_blk, res_sigTok, res_posB, res_crdB, res_doneB, add_zero]
  iintro ⟨#HR, #HL, HO, Hx, ⟨%f, Hs⟩, -⟩ Hk
  iapply (wp_load 𝒱₀ (c : Thread nD τ) none Set.univ (m := mC) (S := Finset.univ) (Finset.subset_univ _)) $$ Hx; iintro Hx
  iapply (wp_load 𝒱₀ (c : Thread nD τ) none Set.univ (m := mS) (S := Finset.univ) (Finset.subset_univ _)) $$ Hs; iintro Hs
  iapply (wp_store 𝒱₀ (c : Thread nD τ) none Set.univ (m := mS) (r := crect) (Mk := Finset.univ) (S := Finset.univ) (Finset.subset_univ _)) $$ Hs; iintro Hs
  have hv : mC.view.readAt (Elt F) crect.toLoadRect (xcF m c) = xcF m c := Memref.readAt_unit_zero (Elt F) cc0_scratch1 zz _ _
  have hw : ∀ w, (mS.access crect).write (Elt F) f w Finset.univ = w := fun w => Memref.write_access_unit_zero_univ (Elt F) cc0_scratch2 zz _ f w
  ihave Hs' := (show ((((c : Thread nD τ).loc cc0_scratch2) ↦{fullShare}
      ((mS.access crect).write (Elt F) f (k0_pay1 (mC.view.readAt (Elt F) crect.toLoadRect (xcF m c))) Finset.univ)) : sProp 𝕄) ⊢ ((c : Thread nD τ).loc cc0_scratch2) ↦{fullShare} msF m c from
    by rw [hv, hw]; exact BI.Entails.refl _) $$ Hs
  ihave Hq := (Entails.of_eq (quarters c (sdev c 0) fullShare (msF m c))) $$ Hs'
  icases Hq with ⟨H0, H1, H2, H3⟩
  iapply Hk $$ %_ HO
  isplitl [Hx]; · iexact Hx
  isplitl [H0]; · iexact H0
  isplitl [H1]; · iexact H1
  isplitl [H2]; · iexact H2
  isplitl [H3]; · iexact H3
  iempintro

/-- The exchange goes to the partner. -/
theorem dir_pT (l : Fin 4) : dir (pT l) = 0 := by revert l; decide
/-- The lane of a quarter's exchange. -/
theorem lane_pT (l : Fin 4) : lane (pT l) = l := by revert l; decide
/-- The exchange goes to the partner. -/
theorem tgt_pT (c : Dev nD) (l : Fin 4) : tgt c (pT l) = sdev c 0 := by rw [tgt_eq, dir_pT]
/-- The exchange comes first. -/
theorem pT_lt (l : Fin 4) : (pT l).val < 4 := l.isLt

/-- Sending a quarter to the partner. -/
theorem rule_sendP (l : Fin 4) : StepRule m (.sendP l) := by
  intro K c O W p Q _
  have hg1 : (Cls.send (pT l)).gives = [.ms l] := (if_pos (pT_lt l)).trans (by rw [lane_pT])
  have hg2 : (Cls.recv (pT l)).gives = [.p1 l] := (if_pos (pT_lt l)).trans (by rw [lane_pT])
  have hl : res m c (.tland (pT l)) = iprop(∃ f, ((tgt c (pT l) : Thread nD τ).loc cc0_scratch3) ↦[qset (pq (tgt c (pT l)) l)]{fullShare} f) :=
    (if_pos (pT_lt l)).trans (by rw [lane_pT])
  simp only [Step.needs, Step.gives, Step.owed, resL_cons, resL_nil, res_xcAny, res_msAny, res_xcFull, res_xin, res_oany, res_odone, res_own, res_p1, res_ms, res_blk, res_sigTok, res_posB, res_crdB, res_doneB, hl]
  iintro ⟨#HR, #HL, HO, Ht, HtR, ⟨%f, Hd⟩, Hs, -⟩ Hk
  iapply (wp_sendT m K c (Q := Q) (p := p) (t := (pT l)) (src := squart c l) (dst := pquart c l) (q := fullShare) (S := qset (pq (sdev c 0) l)) (T := qset (pq (tgt c (pT l)) l))
    (fs := msF m c) (fd := f) O W (squart_set c l) (by rw [pquart_set, tgt_pT]) (credit_tc _)
    (by rw [hg1]; exact BI.Entails.refl _)
    (by
      rw [hg2, resL_one]
      refine Entails.of_eq (pointsTo_congr fun i hi => ?_)
      rw [tgt_pT] at hi ⊢
      exact part_eq m c l f i hi)) $$ [HO Hs Hd Ht HtR]
  · isplitr; · iexact HR
    isplitl [HO]; · iexact HO
    isplitl [Hs]; · iexact Hs
    isplitl [Hd]; · iexact Hd
    isplitl [Ht]; · iexact Ht
    iexact HtR
  iintro ⟨Hc, HO⟩
  iapply Hk $$ %_ HO
  isplitl; · iexact Hc
  iempintro

/-- Sending a block on: one share of it goes with the copy. -/
theorem rule_send (t : Fin 32) (h : 4 ≤ t.val) : StepRule m (.send t) := by
  intro K c O W p Q _
  have hn : ¬ t.val < 4 := by omega
  have hg1 : (Cls.send t).gives = [.blk (shrT t) (srcT t)] := if_neg hn
  have hg2 : (Cls.recv t).gives = [.blk 0 t, .blk 1 t, .blk 2 t] := if_neg hn
  have hl : res m c (.tland t) = iprop(∃ f, ((tgt c t : Thread nD τ).loc cc0_scratch0) ↦[bset (pos (tgt c t) t)]{fullShare} f) := if_neg hn
  simp only [Step.needs, Step.gives, Step.owed, resL_cons, resL_nil, res_xcAny, res_msAny, res_xcFull, res_xin, res_oany, res_odone, res_own, res_p1, res_ms, res_blk, res_sigTok, res_posB, res_crdB, res_doneB, hl]
  iintro ⟨#HR, #HL, HO, Ht, HtR, ⟨%f, Hd⟩, Hs, -⟩ Hk
  iapply (wp_sendT m K c (Q := Q) (p := p) (t := t) (src := gblk c (srcBlk t)) (dst := gblk c (srcBlk t)) (q := shr (shrT t)) (S := bset (pos c (srcT t))) (T := bset (pos (tgt c t) t))
    (fs := gF m c) (fd := f) O W (gblk_set c t h) (by rw [gblk_set c t h, pos_tgt c t h]) (credit_tc _)
    (by rw [hg1]; exact BI.Entails.refl _)
    (by
      rw [hg2]
      refine BI.Entails.trans (Entails.of_eq (pointsTo_congr fun i hi => ?_)) (blk_shares m (tgt c t) t).1
      rw [pos_tgt c t h] at hi
      rw [gF_tgt m c t h hi]
      exact copy_same (gblk c (srcBlk t)).view f (gF m c) i (by rw [gblk_set c t h]; exact hi))) $$ [HO Hs Hd Ht HtR]
  · isplitr; · iexact HR
    isplitl [HO]; · iexact HO
    isplitl [Hs]; · iexact Hs
    isplitl [Hd]; · iexact Hd
    isplitl [Ht]; · iexact Ht
    iexact HtR
  iintro ⟨Hc, HO⟩
  iapply Hk $$ %_ HO
  isplitl; · iexact Hc
  iempintro

/-- Starting to write a chunk: one share of each of its blocks goes with the copy. -/
theorem rule_flush (κ : Fin 8) : StepRule m (.flush κ) := by
  intro K c O W p Q _
  simp only [Step.needs, Step.gives, Step.owed, resL_cons, resL_nil, res_xcAny, res_msAny, res_xcFull, res_xin, res_oany, res_odone, res_own, res_p1, res_ms, res_blk, res_sigTok, res_posB, res_crdB, res_doneB, add_zero]
  iintro ⟨#HR, #HL, HO, Ht, ⟨%f, Hd⟩, H0, H1, H2, H3, -⟩ Hk
  ihave Hs := (Entails.of_eq (gath_chunk c κ (shr 0) (gF m c)).symm) $$ [H0 H1 H2 H3]
  · isplitl [H0]; · iexact H0
    isplitl [H1]; · iexact H1
    isplitl [H2]; · iexact H2
    iexact H3
  iapply (wp_copyK m K c (Q := Q) (p := p) (k := (.flush κ)) (src := gchunk c κ) (dst := ochunk c κ) (q := shr 0) (S := cset (chunk c κ)) (T := cset (chunk c κ))
    (fs := gF m c) (fd := f) (gchunk_set c κ) (ochunk_set c κ) (credit_tc _) (by
      simp only [Cls.gives, resL_cons, resL_nil, res_odone, res_blk]
      iintro ⟨H1, H2⟩
      isplitl [H1]
      · iapply (Entails.of_eq (pointsTo_congr (ℓ := (c : Thread nD τ).loc main_v1) (I := cset (chunk c κ)) (g := gF m c) (flush_eq m c κ f)))
        iexact H1
      ihave H := (Entails.of_eq (gath_chunk c κ (shr 0) (gF m c))) $$ H2
      icases H with ⟨H0, H1, H2, H3⟩
      isplitl [H0]; · iexact H0
      isplitl [H1]; · iexact H1
      isplitl [H2]; · iexact H2
      isplitl [H3]; · iexact H3
      iempintro)) $$ [Hs Hd Ht]
  · isplitr; · iexact HR
    isplitl [Hs]; · iexact Hs
    isplitl [Hd]; · iexact Hd
    iexact Ht
  iintro Hc
  iapply Hk $$ %_ HO
  isplitl; · iexact Hc
  iempintro

/-- Adding a quarter: the block then holds the own sums, in three shares. -/
theorem rule_reduce (l : Fin 4) : StepRule m (.reduce l) := by
  intro K c O W p Q _
  have hP : mP.view.setOn (rrect c l).toLoadRect.set ⊆ qset (pq c l) := by
    intro i hi
    obtain ⟨x, hx, rfl⟩ := Finset.mem_map.mp hi
    rw [← rrect_set c l]; exact hx
  have hG : (mG.access (wrect c l)).setOn Finset.univ ⊆ bset (pos c (pT l)) := by
    rw [View.setOn_univ, ← wrect_set c l]
    exact (View.set_slice_whole cc0_scratch0 (wrect c l)).subset
  have hG' : mG.view.setOn (wrect c l).toLoadRect.set ⊆ bset (pos c (pT l)) := by
    intro i hi
    obtain ⟨x, hx, rfl⟩ := Finset.mem_map.mp hi
    rw [← wrect_set c l]; exact hx
  simp only [Step.needs, Step.gives, Step.owed, resL_cons, resL_nil, res_xcAny, res_msAny, res_xcFull, res_xin, res_oany, res_odone, res_own, res_p1, res_ms, res_blk, res_sigTok, res_posB, res_crdB, res_doneB, add_zero]
  iintro ⟨#HR, #HL, HO, Hx, Hp, ⟨%f, Hg⟩, -⟩ Hk
  iapply (wp_load 𝒱₀ (c : Thread nD τ) none Set.univ (m := mC) (S := Finset.univ) (Finset.subset_univ _)) $$ Hx; iintro Hx
  iapply (wp_load 𝒱₀ (c : Thread nD τ) none Set.univ (m := mP) (S := qset (pq c l)) hP) $$ Hp; iintro Hp
  iapply (wp_load 𝒱₀ (c : Thread nD τ) none Set.univ (m := mG) (S := bset (pos c (pT l))) hG') $$ Hg; iintro Hg
  iapply (wp_store 𝒱₀ (c : Thread nD τ) none Set.univ (m := mG) (r := wrect c l) (Mk := Finset.univ) (S := bset (pos c (pT l))) hG) $$ Hg; iintro Hg
  ihave Hg' := (Entails.of_eq (pointsTo_congr (ℓ := (c : Thread nD τ).loc cc0_scratch0) (I := bset (pos c (pT l))) (g := gF m c) (reduce_eq m c l f))) $$ Hg
  have hb := (blk_shares m c (pT l)).1
  simp only [resL_cons, resL_nil, res_blk] at hb
  ihave Hb := hb $$ Hg'
  iapply Hk $$ %_ HO
  isplitl [Hx]; · iexact Hx
  isplitl [Hp]; · iexact Hp
  iexact Hb

/-- Every step has its rule. -/
theorem step_rule : (s : Step) → s.ok = true → StepRule m s
  | .copyIn, _ => rule_copyIn m
  | .sig i, _ => rule_sig m i
  | .waitBar, _ => rule_waitBar m
  | .waitCopy, _ => rule_waitCopy m
  | .cast, _ => rule_cast m
  | .sendP l, _ => rule_sendP m l
  | .waitP l, _ => rule_waitP m l
  | .reduce l, _ => rule_reduce m l
  | .send t, h => rule_send m t (of_decide_eq_true h)
  | .waitRecv t, _ => rule_waitRecv m t
  | .flush κ, _ => rule_flush m κ
  | .waitSentP l, _ => rule_waitSentP m l
  | .waitSent t, _ => rule_waitSent m t
  | .waitFlush κ, _ => rule_waitFlush m κ

end Cert.RingProof

end
-- ==== Proof.Walk.lean ====
/-
# `Walk`: the body runs

The resources that the body starts from are enough for its steps, in their order: `walk` takes a list of resources
through a list of steps, and its result is evaluated once. The waits are allowed because each waited cell lies below
every cell that later steps still pay.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Taking resources from a list -/

omit [FloatOps F] in
/-- Two resources in front of a third swap. -/
theorem sep_left_comm (P Q R : sProp (MT nD τ sig Unit (Elt F) ℕ UU ℕ)) : iprop(P ∗ Q ∗ R) ⊢ iprop(Q ∗ P ∗ R) := by
  iintro ⟨H1, H2, H3⟩
  isplitl [H2]; · iexact H2
  isplitl [H1]; · iexact H1
  iexact H3

/-- The order of a list of resources does not matter. -/
theorem resL_perm (c : Dev nD) {l l' : List Res} (h : l.Perm l') : resL m c l = resL m c l' := by
  induction h with
  | nil => rfl
  | cons r _ ih => rw [resL_cons, resL_cons, ih]
  | swap r r' l =>
    simp only [resL_cons]
    exact equiv_iff.mp ⟨sep_left_comm (res m c r') (res m c r) (resL m c l), sep_left_comm (res m c r) (res m c r') (resL m c l)⟩
  | trans _ _ ih ih' => exact ih.trans ih'

/-- The list without the resources of another, if it has them. -/
def takeAll : List Res → List Res → Option (List Res)
  | [], st => some st
  | r :: rs, st => if r ∈ st then takeAll rs (st.erase r) else none

/-- Taking resources out of a list and putting them back is a permutation. -/
theorem takeAll_perm : (rs st st' : List Res) → takeAll rs st = some st' → st.Perm (rs ++ st')
  | [], st, st', h => by rw [Option.some.inj h]; exact List.Perm.refl _
  | r :: rs, st, st', h => by
    unfold takeAll at h
    split at h
    · rename_i hr
      exact (List.perm_cons_erase hr).trans ((takeAll_perm rs _ st' h).cons r)
    · cases h

/-- The resources after a list of steps. -/
def walk : List Step → List Res → Option (List Res)
  | [], st => some st
  | s :: ss, st => if s.ok then (takeAll s.needs st).bind fun st' => walk ss (s.gives ++ st') else none

/-! ## Levels -/

/-- The level of the cell that a step pays. -/
def Step.lev : Step → Option ℕ
  | .sig _ => some 1
  | .sendP l => some (lvT (pT l))
  | .send t => some (lvT t)
  | _ => none

/-- Every waited cell lies below what later steps pay. -/
def lvOK : List Step → Bool
  | [] => true
  | s :: ss => (match s.wait with
      | some sm => ss.all fun s' => match s'.lev with
        | some b => decide (lvS sm < b)
        | none => true
      | none => true) && lvOK ss

/-- What the device owes before a list of steps. -/
def owedL (c : Dev nD) : List Step → CellTallies nD τ sig Unit
  | [] => 0
  | s :: ss => owedL c ss + s.owed c

/-- The level of a receive cell. -/
theorem lvS_recv (t : Fin 32) : lvS (.dma (recvSem t)) = lvT t := by
  show (match cls (recvSem t) with | .recv t => lvT t | _ => 0) = _
  rw [cls_recv]

/-- A positive tally is on its cell. -/
theorem tally_pos {g g' : GSem nD τ sig} {n : ℕ} {u u' : Unit} (h : 0 < (tallyAt g u n : CellTallies nD τ sig Unit) g' u') : g' = g := by
  by_contra hn
  rw [tallyAt_apply, if_neg (fun h' => hn h'.1)] at h
  exact Nat.lt_irrefl 0 h

/-- What a step owes lies on a TensorCore's cell of the step's level. -/
theorem owed_pos (c : Dev nD) (s : Step) {g : GSem nD τ sig} {u : Unit} (h : 0 < s.owed c g u) : g.1.2 = .tc ∧ s.lev = some (lvS g.2) := by
  cases s
  case sig i => have e := tally_pos h; subst e; exact ⟨rfl, rfl⟩
  case sendP l => have e := tally_pos h; subst e; exact ⟨rfl, congrArg some (lvS_recv _).symm⟩
  case send t => have e := tally_pos h; subst e; exact ⟨rfl, congrArg some (lvS_recv _).symm⟩
  all_goals exact absurd h (Nat.lt_irrefl 0)

/-- What a list of steps owes, some step of it owes. -/
theorem owedL_pos (c : Dev nD) {g : GSem nD τ sig} {u : Unit} : (ss : List Step) → 0 < owedL c ss g u → ∃ s ∈ ss, 0 < s.owed c g u
  | [], h => absurd h (Nat.lt_irrefl 0)
  | s :: ss, h => by
    unfold owedL at h
    rw [Pi.add_apply, Finsupp.add_apply] at h
    rcases Nat.eq_zero_or_pos (s.owed c g u) with h0 | h0
    · rw [h0, Nat.add_zero] at h
      obtain ⟨s', hs', hp⟩ := owedL_pos c ss h
      exact ⟨s', List.mem_cons_of_mem _ hs', hp⟩
    · exact ⟨s, List.mem_cons_self, h0⟩

omit [FloatOps F] in
/-- A wait below everything owed is allowed. -/
theorem mayWait (c : Dev nD) (sm : SemLoc sig) (ss : List Step)
    (h : (ss.all fun s' => match s'.lev with | some b => decide (lvS sm < b) | none => true) = true) :
    (levAts L lv : sProp 𝕄) ⊢ MayWait (c : Thread nD τ) sm () (owedL c ss) := by
  have key : ∀ g u, 0 < owedL c ss g u → g.1.2 = .tc ∧ lvS sm < lvS g.2 := by
    intro g u hg
    obtain ⟨s, hs, hp⟩ := owedL_pos c ss hg
    have h1 := owed_pos c s hp
    have h2 := List.all_eq_true.mp h s hs
    rw [h1.2] at h2
    exact ⟨h1.1, of_decide_eq_true h2⟩
  exact MayOwe.of_cut (L := L) (lev := lv) (lvS sm) (fun p hp => by rw [Finset.mem_singleton.mp hp, L_tc]; exact Finset.mem_singleton_self _)
    (fun g u hg => by unfold L; rw [if_pos (key g u hg).1]; exact Finset.mem_singleton_self _)
    (fun p hp => by rw [Finset.mem_singleton.mp hp]; exact le_refl _)
    (fun g u hg => (key g u hg).2)

/-! ## The walk is sound -/

/-- From the resources of a list, a list of steps runs to the resources that the walk computes. -/
theorem walk_sound (K : Dev nD × SemLoc sig → ℕ) (c : Dev nD) (Q : PUnit.{1} → sProp (MT nD τ sig Unit (Elt F) ℕ UU ℕ)) :
    (ss : List Step) → (st st' : List Res) → walk ss st = some st' → lvOK ss = true → (W : Waits sig Unit) →
    iprop(recs m K ∗ levAts L lv ∗ owes (c : Thread nD τ) (owedL c ss) W ∗ resL m c st)
      ⊢ iprop((∀ W' : Waits sig Unit, (owes (c : Thread nD τ) 0 W' -∗ (resL m c st' -∗ |={Set.univ}=> Q ⟨⟩))) -∗ WP c (runSteps c ss) Q)
  | [], st, st', hw, _, W => by
    obtain rfl : st = st' := Option.some.inj hw
    show iprop(_ ∗ _ ∗ owes (c : Thread nD τ) 0 W ∗ _) ⊢ iprop(_ -∗ WP c (.ret ⟨⟩) Q)
    rw [WP, wp_ret]
    iintro ⟨#HR, #HL, HO, Hr⟩ Hk
    iapply Hk $$ %W HO
    iexact Hr
  | s :: ss, st, st', hw, hl, W => by
    unfold walk at hw
    split at hw
    case isFalse => cases hw
    case isTrue hok =>
    obtain ⟨st₁, h1, h2⟩ := Option.bind_eq_some_iff.mp hw
    unfold lvOK at hl
    obtain ⟨hl1, hl2⟩ := Bool.and_eq_true_iff.mp hl
    have hwait : ∀ sm, s.wait = some sm → (levAts L lv : sProp 𝕄) ⊢ MayWait (c : Thread nD τ) sm () (owedL c ss) := by
      intro sm hsm
      rw [hsm] at hl1
      exact mayWait c sm ss hl1
    have ih := walk_sound K c Q ss (s.gives ++ st₁) st' h2 hl2
    have rule := step_rule m s hok K c (owedL c ss) W (runSteps c ss) Q hwait
    show _ ⊢ iprop(_ -∗ WP c (s.prog c (runSteps c ss)) Q)
    rw [resL_perm m c (takeAll_perm _ _ _ h1), resL_append]
    iintro ⟨#HR, #HL, HO, Hn, Hrest⟩ Hk
    iapply rule $$ [HO Hn]
    · isplitr; · iexact HR
      isplitr; · iexact HL
      isplitl [HO]; · iexact HO
      iexact Hn
    iintro %W' HO Hg
    iapply (ih W') $$ [HO Hg Hrest]
    · isplitr; · iexact HR
      isplitr; · iexact HL
      isplitl [HO]; · iexact HO
      iapply (Entails.of_eq (resL_append m c s.gives st₁).symm)
      isplitl [Hg]; · iexact Hg
      iexact Hrest
    iexact Hk

/-! ## The walk of the body -/

/-- The cells and the rights at the start. -/
def initG : List Res :=
  (List.finRange 73).map (fun q => .pos (cls q))
    ++ (.tok .copy :: (List.finRange 8).map (fun κ => .tok (.flush κ))) ++ (List.finRange 32).map (fun t => .tok (.send t))
    ++ (List.finRange 32).map .tokR ++ (List.finRange 3).map .sigTok ++ [.posB]
/-- The credits at the start. -/
def initC : List Res := (List.finRange 32).map (fun t => .crd (.recv t)) ++ [.crdB]
/-- The scratch buffers at the start. -/
def initB : List Res :=
  (List.finRange 32).map .land ++ (List.finRange 4).map .own ++ [.msAny, .xcAny]
/-- The argument's own chunk, and the result. -/
def initA : List Res := .xin :: (List.finRange 8).map .oany
/-- The cells at the end. -/
def finG : List Res := (List.finRange 73).map (fun q => .done (cls q)) ++ [.doneB]
/-- The scratch buffers at the end. -/
def finB : List Res :=
  ((List.finRange 32).map (.blk 0) ++ (List.finRange 32).map (.blk 1) ++ (List.finRange 32).map (.blk 2))
    ++ (List.finRange 4).map .p1 ++ (List.finRange 4).map .ms ++ [.xcFull]
/-- The argument's own chunk, and the result, at the end. -/
def finA : List Res := .xin :: (List.finRange 8).map .odone

/-- The walk through all steps uses up the initial resources and leaves the final ones. -/
theorem walk_steps : ((walk steps (initG ++ initC ++ initB ++ initA)).bind (takeAll (finG ++ finB ++ finA))) = some [] := by decide +kernel

/-- Every wait lies below what is still owed. -/
theorem lv_steps : lvOK steps = true := by decide +kernel

/-- The body runs from the initial resources to the final ones. -/
theorem body_run (K : Dev nD × SemLoc sig → ℕ) (c : Dev nD) (Q : PUnit.{1} → sProp (MT nD τ sig Unit (Elt F) ℕ UU ℕ)) (W : Waits sig Unit) :
    iprop(recs m K ∗ levAts L lv ∗ owes (c : Thread nD τ) (owedL c steps) W ∗ resL m c (initG ++ initC ++ initB ++ initA))
      ⊢ iprop((∀ W' : Waits sig Unit, (owes (c : Thread nD τ) 0 W' -∗ (resL m c (finG ++ finB ++ finA) -∗ |={Set.univ}=> Q ⟨⟩))) -∗ WP c (runSteps c steps) Q) := by
  obtain ⟨st', h1, h2⟩ := Option.bind_eq_some_iff.mp walk_steps
  have h := walk_sound m K c Q steps _ st' h1 lv_steps W
  rwa [resL_perm m c (takeAll_perm _ _ _ h2), List.append_nil] at h

end Cert.RingProof

end
-- ==== Proof.Deal.lean ====
/-
# `Deal`: what the devices start with

The cells of all devices are set up together, and the rights to complete them are dealt to the devices that use them:
a receive cell's to the device that sends there, a barrier's three to the three neighbours. The credits for the waits
on receive cells and on the barrier come from what the devices owe at launch.
-/
module

public import proofs.«01_k».proof.Proof.Walk
public import Idealize.ShloMosaic.Lib.Pipeline.Launch
public import Idealize.ShloMosaic.Lib.Pipeline.Kit

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

/-- All numbers below `n`, listed. -/
theorem finRange_univ (n : ℕ) : (Finset.univ : Finset (Fin n)) = (List.finRange n).toFinset := by
  ext i; simp

/-- The resources of a family, listed. -/
theorem resL_fin (c : Dev nD) {n : ℕ} (f : Fin n → Res) : resL m c ((List.finRange n).map f) = bigSep Finset.univ fun i => res m c (f i) := by
  unfold resL
  rw [bigSepL_map, bigSep_univ_eq_bigSepL (List.finRange n) (finRange_univ n) (List.nodup_finRange n)]

omit [FloatOps F] in
/-- A device's cells are the barrier's and those of the DMA semaphores. -/
theorem bigSep_cells (Φ : SemLoc sig → sProp 𝕄) : bigSep Finset.univ Φ = iprop(Φ barLoc ∗ bigSep Finset.univ fun q : Fin 73 => Φ (.dma q)) := by
  rw [bigSep_univ_equiv (SemLoc.equivSum sig).symm Φ, bigSep_univ_sum]
  congr 1
  exact bigSep_univ_eq_bigSepL (I := Fin 1) [0] (by decide) (by decide) _

omit [FloatOps F] in
/-- The DMA semaphores by their use. -/
theorem bigSep_dma (Φ : Fin 73 → sProp 𝕄) :
    bigSep Finset.univ Φ = iprop(Φ copySem ∗ (bigSep Finset.univ fun κ : Fin 8 => Φ (flushSem κ)) ∗ (bigSep Finset.univ fun t : Fin 32 => Φ (sendSem t))
      ∗ bigSep Finset.univ fun t : Fin 32 => Φ (recvSem t)) := by
  rw [bigSep_univ_eq_bigSepL (copySem :: ((List.finRange 8).map flushSem ++ ((List.finRange 32).map sendSem ++ (List.finRange 32).map recvSem)))
      (by decide +kernel) (by decide +kernel),
    bigSepL_cons, bigSepL_append, bigSepL_append, bigSepL_map, bigSepL_map, bigSepL_map,
    bigSep_univ_eq_bigSepL (List.finRange 8) (finRange_univ 8) (List.nodup_finRange 8),
    bigSep_univ_eq_bigSepL (List.finRange 32) (finRange_univ 32) (List.nodup_finRange 32),
    bigSep_univ_eq_bigSepL (List.finRange 32) (finRange_univ 32) (List.nodup_finRange 32)]
  rfl

/-! ## The cells and their tokens -/

/-- Cells of different devices or semaphores differ. -/
theorem cell_inj : Function.Injective (fun x : Dev nD × SemLoc sig => cell x.1 x.2) := by
  rintro ⟨c, s⟩ ⟨c', s'⟩ h
  exact Prod.ext (congrArg (fun g : GSem nD τ sig => g.1.1) h) (congrArg (fun g : GSem nD τ sig => g.2) h)
/-- All cells of all devices. -/
def ringCells : Finset (GSem nD τ sig) := Finset.univ.map ⟨_, cell_inj⟩

/-- The right to complete a cell: a barrier has three. -/
def tokOf (x : Dev nD × (Fin 3 ⊕ Fin 73)) : GSem nD τ sig × ℕ × Fin 3 := match x.2 with
  | .inl d => (barCell x.1, 0, d)
  | .inr q => (cell x.1 (.dma q), 0, 0)
/-- Different rights are about different duties. -/
theorem tokOf_inj : Function.Injective tokOf := by
  rintro ⟨c, x⟩ ⟨c', x'⟩ h
  have h1 : c = c' := by rcases x with d | q <;> rcases x' with d' | q' <;> exact congrArg (fun g : GSem nD τ sig × ℕ × Fin 3 => g.1.1.1) h
  subst h1
  congr 1
  have h2 := congrArg (fun g : GSem nD τ sig × ℕ × Fin 3 => g.1.2) h
  have h3 := congrArg (fun g : GSem nD τ sig × ℕ × Fin 3 => g.2.2) h
  rcases x with d | q <;> rcases x' with d' | q'
  · exact congrArg Sum.inl h3
  · cases h2
  · cases h2
  · exact congrArg Sum.inr (SemLoc.dma.inj h2)
/-- All rights of all devices. -/
def ringToks : Finset (GSem nD τ sig × ℕ × Fin 3) := Finset.univ.map ⟨tokOf, tokOf_inj⟩

/-- The rights to complete device `c`'s own cells. -/
def toks (c : Dev nD) : sProp 𝕄 :=
  iprop((bigSep Finset.univ fun d : Fin 3 => dutyTok ER (barCell c) 0 d) ∗ bigSep Finset.univ fun q : Fin 73 => dutyTok ER (cell c (.dma q)) 0 0)

/-- What the ghost state at launch deals device `c`. -/
def G (c : Dev nD) : sProp 𝕄 :=
  iprop((bigSep Finset.univ fun s : SemLoc sig => roundState ER (Rd m) (cell c s) 0)
    ∗ (bigSep Finset.univ fun s : SemLoc sig => iprop(atPos ER (cell c s) 0 ∅ 0 ∗ reached ER (cell c s) 0)) ∗ toks c)

/-- What device `c` has of it once all cells are set up. -/
def G' (c : Dev nD) : sProp 𝕄 := iprop(∃ K, recs m K ∗ resL m c initG)

/-- The ghost state of the cells, dealt to their devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun s : SemLoc sig => Φ (cell c s) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Setting the cells up -/

/-- The semaphores that belong to the kernel: all its DMA semaphores. -/
abbrev osem : Fin 73 → SemLoc sig := fun q => .dma q

/-- The own semaphores are scoped and distinct, and no window uses one. -/
theorem ownSemFacts : Pipeline.OwnSemFacts cfg0.spec osem :=
  ⟨by decide +kernel, fun _ _ h => SemLoc.dma.inj h, fun _ w => w.elim0⟩

omit [FloatOps F] in
/-- The barrier semaphore is the one that is not. -/
theorem unscopedSems0_eq (c : Dev nD) : (unscopedSems0 c : sProp 𝕄) = semVal (barCell c) 0 := by
  unfold unscopedSems0; rw [bigSep_eq_bigSepL_of_eq [barLoc] (by decide +kernel) (by decide)]; rfl

omit [FloatOps F] in
/-- A device's semaphores, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : SemLoc sig => semVal (cell c s) 0 : sProp 𝕄) := by
  rw [unscopedSems0_eq, bigSep_cells]
  unfold Pipeline.ownSems0
  iintro ⟨HS, HB⟩
  isplitl [HB]; · iexact HB
  iexact HS

/-- One device's cells set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ (cell c s)))
          ∗ (bigSep Finset.univ fun s : SemLoc sig => iprop(atPos ER (cell c s) 0 ∅ 0 ∗ reached ER (cell c s) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun s : SemLoc sig => semVal (cell c s) 0) ∗ bigSep Finset.univ fun s : SemLoc sig => roundState ER (Rd m) (cell c s) 0)
      ⊢ (|={Set.univ}=> bigSep Finset.univ fun s : SemLoc sig => iprop(∃ κ : ℕ, cellInv ER (Rd m) κ (cell c s)) : sProp 𝕄) from by
        rw [← bigSep_sep']
        exact (bigSep_mono fun s _ => (Rounds.body_intro ER (Rd m) (cell c s)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go round -/

/-- A receive cell of a device, and the device that sends there. -/
def tgtE : Dev nD × Fin 32 ≃ Dev nD × Fin 32 where
  toFun x := (tgt x.1 x.2, x.2)
  invFun x := (sdev x.1 (back (dir x.2)), x.2)
  left_inv x := Prod.ext (by show sdev (tgt x.1 x.2) (back (dir x.2)) = x.1; rw [tgt_eq, sdev_back]) rfl
  right_inv x := Prod.ext (by
    show tgt (sdev x.1 (back (dir x.2))) x.2 = x.1
    have h := sdev_back x.1 (back (dir x.2))
    rw [back_back] at h
    rw [tgt_eq, h]) rfl

/-- A barrier and one of its three rights, and the neighbour that has it. -/
def sigE : Dev nD × Fin 3 ≃ Dev nD × Fin 3 where
  toFun x := (sdev x.1 x.2, back x.2)
  invFun x := (sdev x.1 x.2, back x.2)
  left_inv x := Prod.ext (sdev_back x.1 x.2) (back_back x.2)
  right_inv x := Prod.ext (sdev_back x.1 x.2) (back_back x.2)

omit [FloatOps F] in
/-- The rights to the receive cells go to the senders. -/
theorem recv_around : (bigSep Finset.univ fun c : Dev nD => bigSep Finset.univ fun t : Fin 32 => (dutyTok ER (kcell c (.recv t)) 0 0 : sProp 𝕄))
    = bigSep Finset.univ fun c : Dev nD => bigSep Finset.univ fun t : Fin 32 => dutyTok ER (kcell (tgt c t) (.recv t)) 0 0 := by
  rw [← bigSep_univ_prod (fun x : Dev nD × Fin 32 => (dutyTok ER (kcell x.1 (.recv x.2)) 0 0 : sProp 𝕄)), bigSep_univ_equiv tgtE, bigSep_univ_prod]
  rfl

omit [FloatOps F] in
/-- The rights to the barriers go to those who signal. -/
theorem sig_around : (bigSep Finset.univ fun c : Dev nD => bigSep Finset.univ fun d : Fin 3 => (dutyTok ER (barCell c) 0 d : sProp 𝕄))
    = bigSep Finset.univ fun c : Dev nD => bigSep Finset.univ fun i : Fin 3 => dutyTok ER (barCell (sdev c i)) 0 (back i) := by
  rw [← bigSep_univ_prod (fun x : Dev nD × Fin 3 => (dutyTok ER (barCell x.1) 0 x.2 : sProp 𝕄)), bigSep_univ_equiv sigE, bigSep_univ_prod]
  rfl

/-- The rights that device `c` has. -/
def payToks (c : Dev nD) : sProp 𝕄 :=
  iprop((bigSep Finset.univ fun i : Fin 3 => dutyTok ER (barCell (sdev c i)) 0 (back i))
    ∗ dutyTok ER (kcell c .copy) 0 0 ∗ (bigSep Finset.univ fun κ : Fin 8 => dutyTok ER (kcell c (.flush κ)) 0 0)
    ∗ (bigSep Finset.univ fun t : Fin 32 => dutyTok ER (kcell c (.send t)) 0 0)
    ∗ bigSep Finset.univ fun t : Fin 32 => dutyTok ER (kcell (tgt c t) (.recv t)) 0 0)

omit [FloatOps F] in
/-- The rights to complete the cells, dealt to the devices that use them. -/
theorem toks_around : (bigSep Finset.univ fun c : Dev nD => (toks c : sProp 𝕄)) = bigSep Finset.univ fun c : Dev nD => payToks c := by
  have h : ∀ c : Dev nD, (toks c : sProp 𝕄) = iprop((bigSep Finset.univ fun d : Fin 3 => dutyTok ER (barCell c) 0 d)
      ∗ dutyTok ER (kcell c .copy) 0 0 ∗ (bigSep Finset.univ fun κ : Fin 8 => dutyTok ER (kcell c (.flush κ)) 0 0)
      ∗ (bigSep Finset.univ fun t : Fin 32 => dutyTok ER (kcell c (.send t)) 0 0)
      ∗ bigSep Finset.univ fun t : Fin 32 => dutyTok ER (kcell c (.recv t)) 0 0) := fun c => by
    unfold toks; rw [bigSep_dma]; rfl
  rw [bigSep_congr fun c _ => h c]
  unfold payToks
  simp only [bigSep_sep']
  rw [recv_around, sig_around]

/-- What stays with device `c`: its positions and its rights. -/
def linear (c : Dev nD) : sProp 𝕄 := iprop((bigSep Finset.univ fun s : SemLoc sig => atPos ER (cell c s) 0 ∅ 0) ∗ payToks c)

/-- What stays with a device is what the body starts from. -/
theorem linear_init (c : Dev nD) : linear c ⊢ resL m c initG := by
  unfold linear payToks initG
  simp only [resL_append, resL_cons, resL_nil, resL_fin, res_pos, res_tok, res_tokR, res_sigTok, res_posB, bigSep_cells, kcell, sem_cls]
  iintro ⟨⟨HB, HA⟩, Hs, Hc, Hf, Ht, Hr⟩
  isplitr [HB]
  · isplitr [Hs]
    · isplitr [Hr]
      · isplitr [Ht]
        · isplitl [HA]; · iexact HA
          isplitl [Hc]; · iexact Hc
          iexact Hf
        iexact Ht
      iexact Hr
    iexact Hs
  isplitl [HB]; · iexact HB
  iempintro

/-- A device's ghost resources, under the names of the cells. -/
theorem ghost_intro (K : Dev nD × SemLoc sig → ℕ) (c : Dev nD) : iprop(recs m K ∗ linear c) ⊢ G' m c := by
  unfold G'
  iintro ⟨HR, HL⟩
  iexists K
  isplitl [HR]; · iexact HR
  iapply (linear_init m c)
  iexact HL

/-- Each device gets the records and its own share. -/
theorem share_recs (K : Dev nD × SemLoc sig → ℕ) : iprop(recs m K ∗ bigSep Finset.univ fun c : Dev nD => linear c) ⊢ bigSep Finset.univ (G' m) := by
  have h : iprop(recs m K ∗ bigSep Finset.univ fun c : Dev nD => linear c) ⊢ (bigSep Finset.univ fun c : Dev nD => iprop(recs m K ∗ linear c) : sProp 𝕄) := by
    rw [bigSep_sep']
    iintro ⟨HR, HL⟩
    isplitl [HR]
    · iapply (BI.bigSep_of_persistent (Finset.univ : Finset (Dev nD)) (recs m K))
      iexact HR
    iexact HL
  exact h.trans (bigSep_mono fun c _ => ghost_intro m K c)

/-- All cells set up, their positions and rights dealt. -/
theorem regroup :
    (bigSep Finset.univ fun c : Dev nD => iprop((bigSep Finset.univ fun s : SemLoc sig => iprop(∃ κ : ℕ, cellInv ER (Rd m) κ (cell c s)))
          ∗ (bigSep Finset.univ fun s : SemLoc sig => iprop(atPos ER (cell c s) 0 ∅ 0 ∗ reached ER (cell c s) 0)) ∗ toks c) : sProp 𝕄)
      ⊢ bigSep Finset.univ (G' m) := by
  rw [bigSep_sep', bigSep_sep', ← bigSep_univ_prod (fun x : Dev nD × SemLoc sig => iprop(∃ κ : ℕ, cellInv ER (Rd m) κ (cell x.1 x.2))),
    bigSep_congr (s := Finset.univ) (fun (c : Dev nD) _ => bigSep_sep' Finset.univ (fun s : SemLoc sig => (atPos ER (cell c s) 0 ∅ 0 : sProp 𝕄)) (fun s => reached ER (cell c s) 0)),
    bigSep_sep', ← bigSep_univ_prod (fun x : Dev nD × SemLoc sig => (reached ER (cell x.1 x.2) 0 : sProp 𝕄)), toks_around]
  iintro ⟨HI, ⟨Hat, #HR⟩, Htok⟩
  ihave HK := (BI.bigSep_exists_pi Finset.univ (fun (x : Dev nD × SemLoc sig) (κ : ℕ) => (cellInv ER (Rd m) κ (cell x.1 x.2) : sProp 𝕄))) $$ HI
  icases HK with ⟨%K, #HI⟩
  iapply (share_recs m K)
  isplitr
  · unfold recs; isplitl; · iexact HI
    iexact HR
  · iapply (Entails.of_eq (bigSep_sep' Finset.univ (fun c : Dev nD => bigSep Finset.univ fun s : SemLoc sig => (atPos ER (cell c s) 0 ∅ 0 : sProp 𝕄)) payToks).symm)
    isplitl [Hat]; · iexact Hat
    iexact Htok

/-- The step that sets up the cells of all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- What a step pays: a signal, or the credit of a transfer. -/
def Step.pays : Step → List (Fin 3 ⊕ Fin 32)
  | .sig i => [.inl i]
  | .sendP l => [.inr (pT l)]
  | .send t => [.inr t]
  | _ => []

/-- A payment of device `c`. -/
def payT (c : Dev nD) : Fin 3 ⊕ Fin 32 → CellTallies nD τ sig Unit
  | .inl i => tallyAt (barCell (sdev c i)) () 1
  | .inr t => owedT c t

/-- What a step owes is the sum of what it pays. -/
theorem owed_pays (c : Dev nD) (s : Step) : s.owed c = (s.pays.map (payT c)).sum := by
  cases s <;> simp [Step.owed, Step.pays, payT]

/-- What a list of steps owes is the sum of what it pays. -/
theorem owedL_pays (c : Dev nD) : (ss : List Step) → owedL c ss = ((ss.flatMap Step.pays).map (payT c)).sum
  | [] => rfl
  | s :: ss => by rw [List.flatMap_cons, List.map_append, List.sum_append, owedL, owedL_pays c ss, owed_pays, add_comm]

/-- Every signal and every transfer is paid once. -/
theorem pays_all : (steps.flatMap Step.pays).Perm ((List.finRange 3).map .inl ++ (List.finRange 32).map .inr) := by decide +kernel

/-- What a device owes at launch. -/
def O₀ (c : Dev nD) : CellTallies nD τ sig Unit := owedL c steps

/-- At launch a device owes three signals and thirty-two transfers. -/
theorem O₀_eq (c : Dev nD) : O₀ c = (∑ i : Fin 3, tallyAt (barCell (sdev c i)) () 1) + ∑ t : Fin 32, owedT c t := by
  unfold O₀
  rw [owedL_pays, (pays_all.map _).sum_eq, List.map_append, List.sum_append, List.map_map, List.map_map, Fin.sum_univ_def, Fin.sum_univ_def]
  rfl

/-- A tally on one cell, read at a cell. -/
theorem tally_unit (g : GSem nD τ sig) (k : ℕ) (g' : GSem nD τ sig) : (tallyAt g () k : CellTallies nD τ sig Unit) g' () = if g' = g then k else 0 := by
  rw [tallyAt_apply]; simp only [and_true]

/-- A sum of tallies, read at a cell. -/
theorem tally_sum {n : ℕ} (f : Fin n → CellTallies nD τ sig Unit) (g : GSem nD τ sig) : (∑ i, f i) g () = ∑ i, f i g () := by
  rw [Finset.sum_apply, Finsupp.finset_sum_apply]

/-- What a device owes a cell at launch. -/
theorem O₀_apply (d : Dev nD) (g : GSem nD τ sig) :
    O₀ d g () = (∑ i : Fin 3, if g = barCell (sdev d i) then 1 else 0) + ∑ t : Fin 32, if g = kcell (tgt d t) (.recv t) then NB else 0 := by
  rw [O₀_eq, Pi.add_apply, Finsupp.add_apply, tally_sum, tally_sum]
  exact congrArg₂ (fun a b : ℕ => a + b) (Finset.sum_congr rfl fun i _ => tally_unit _ 1 g) (Finset.sum_congr rfl fun t _ => tally_unit _ NB g)

/-- A cell's device. -/
theorem cell_dev {c d : Dev nD} {s s' : SemLoc sig} (h : cell c s = cell d s') : c = d := congrArg (fun g : GSem nD τ sig => g.1.1) h

/-- Different transfers have different receive semaphores. -/
theorem recv_inj {t t' : Fin 32} (h : recvSem t = recvSem t') : t = t' := Cls.recv.inj (by rw [← cls_recv t, ← cls_recv t', h])

/-- A barrier is owed three signals. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_apply d (barCell c), Finset.sum_add_distrib, Finset.sum_comm]
  have h1 : ∀ i : Fin 3, (∑ d : Dev nD, if barCell c = barCell (sdev d i) then 1 else 0) = 1 := fun i => by
    have h : ∀ d : Dev nD, (if barCell c = barCell (sdev d i) then 1 else 0) = if d = sdev c (back i) then 1 else 0 := fun d => by
      refine if_congr ⟨fun h => ?_, fun h => ?_⟩ rfl rfl
      · rw [cell_dev h, sdev_back]
      · have hb := sdev_back c (back i)
        rw [back_back] at hb
        rw [h, hb]
    rw [Finset.sum_congr rfl fun d _ => h d, Finset.sum_ite_eq' Finset.univ (sdev c (back i)) fun _ => 1, if_pos (Finset.mem_univ _)]
  have h2 : ∀ d : Dev nD, (∑ t : Fin 32, if barCell c = kcell (tgt d t) (.recv t) then NB else 0) = 0 := fun d =>
    Finset.sum_eq_zero fun t _ => if_neg fun h => by cases congrArg Prod.snd h
  rw [Finset.sum_congr rfl fun i _ => h1 i, Finset.sum_congr rfl fun d _ => h2 d]
  rfl

/-- A receive cell is owed the credit of its transfer. -/
theorem launch_recv (c : Dev nD) (t : Fin 32) :
    tallyOn (kcell c (.recv t)) (launchCredit (Pipeline.owing O₀) 0 (kcell c (.recv t))) = (tallyAt (kcell c (.recv t)) () NB : CellTallies nD τ sig Unit) := by
  unfold tallyAt; refine congrArg _ (Finsupp.ext fun u => ?_); cases u
  rw [Pipeline.launchCredit_owing, Finsupp.single_eq_same, Finset.sum_congr rfl fun d _ => O₀_apply d (kcell c (.recv t))]
  have h : ∀ d : Dev nD, ((∑ i : Fin 3, if kcell c (.recv t) = barCell (sdev d i) then 1 else 0)
      + ∑ t' : Fin 32, if kcell c (.recv t) = kcell (tgt d t') (.recv t') then NB else 0) = if d = sdev c (back (dir t)) then NB else 0 := fun d => by
    rw [Finset.sum_eq_zero fun i _ => if_neg (fun h => by cases congrArg Prod.snd h), Nat.zero_add,
      Finset.sum_eq_single t (fun t' _ hne => if_neg fun h => hne (recv_inj (SemLoc.dma.inj (congrArg Prod.snd h))).symm) (fun h => absurd (Finset.mem_univ _) h)]
    refine if_congr ⟨fun h => ?_, fun h => ?_⟩ rfl rfl
    · rw [cell_dev h, tgt_eq, sdev_back]
    · have hb := sdev_back c (back (dir t))
      rw [back_back] at hb
      rw [h, tgt_eq, hb]
  rw [Finset.sum_congr rfl fun d _ => h d, Finset.sum_ite_eq' Finset.univ (sdev c (back (dir t))) fun _ => NB, if_pos (Finset.mem_univ _)]

/-- The credits that device `c` starts with. -/
theorem creds (c : Dev nD) : (Pipeline.launchCred O₀ c : sProp 𝕄) ⊢ resL m c initC := by
  unfold Pipeline.launchCred initC
  simp only [resL_append, resL_cons, resL_nil, resL_fin, res_crd, res_crdB]
  rw [bigSep_cells, launch_bar, bigSep_dma]
  iintro ⟨HB, -, -, -, HR⟩
  isplitr [HB]
  · iapply (Entails.of_eq (bigSep_congr fun t _ => congrArg cred (launch_recv c t)))
    iexact HR
  isplitl [HB]; · iexact HB
  iempintro

end Cert.RingProof

end
-- ==== Proof.Bufs.lean ====
/-
# `Bufs`: the buffers at the start and at the end

At the start the scratch buffers fall into the places of the transfers, at the end they are whole again, the result is
whole and holds the gathered sums, and every semaphore is back at zero.
-/
module

public import proofs.«01_k».proof.Proof.Deal
public import proofs.«01_k».proof.Proof.Gen.KernelIdeal.Launch

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Wholes and parts -/

omit [FloatOps F] in
/-- A buffer is its parts. -/
theorem whole_parts (ℓ : Loc nD τ sig) {n : ℕ} (P : Fin n → Finset (Idx ℓ)) (hd : ∀ t t', t ≠ t' → Disjoint (P t) (P t'))
    (ha : (Finset.univ : Finset (Fin n)).biUnion P = Finset.univ) (f : Buf (Elt F) ℓ) :
    ((ℓ ↦{fullShare} f) : sProp 𝕄) = bigSep Finset.univ fun t => iprop(ℓ ↦[P t]{fullShare} f) :=
  (congrArg (fun S => ((ℓ ↦[S]{fullShare} f) : sProp 𝕄)) ha.symm).trans (pointsTo_biUnion Finset.univ P fun t _ t' _ h => hd t t' h)

omit [FloatOps F] in
/-- Some contents are any contents. -/
theorem any_intro (ℓ : Loc nD τ sig) (S : Finset (Idx ℓ)) (f : Buf (Elt F) ℓ) : ((ℓ ↦[S]{fullShare} f) : sProp 𝕄) ⊢ iprop(∃ f : Buf (Elt F) ℓ, ℓ ↦[S]{fullShare} f) := by
  iintro H; iexists f; iexact H

omit [FloatOps F] in
/-- A buffer of unknown contents gives its parts, each of unknown contents. -/
theorem whole_any (ℓ : Loc nD τ sig) {n : ℕ} (P : Fin n → Finset (Idx ℓ)) (hd : ∀ t t', t ≠ t' → Disjoint (P t) (P t'))
    (ha : (Finset.univ : Finset (Fin n)).biUnion P = Finset.univ) :
    iprop(∃ f : Buf (Elt F) ℓ, ℓ ↦{fullShare} f) ⊢ (bigSep Finset.univ fun t => iprop(∃ f : Buf (Elt F) ℓ, ℓ ↦[P t]{fullShare} f) : sProp 𝕄) := by
  iintro ⟨%f, H⟩
  have h : (bigSep Finset.univ fun t => iprop(ℓ ↦[P t]{fullShare} f) : sProp 𝕄) ⊢ bigSep Finset.univ fun t => iprop(∃ f : Buf (Elt F) ℓ, ℓ ↦[P t]{fullShare} f) :=
    bigSep_mono fun t _ => any_intro ℓ (P t) f
  iapply h
  iapply (Entails.of_eq (whole_parts ℓ P hd ha f))
  iexact H

/-! ## The start -/

/-- The transfers after the exchange with the partner. -/
def late : List (Fin 32) := (List.finRange 28).map fun i => ⟨i.val + 4, by omega⟩

/-- The later transfers are those from 4 on. -/
theorem late_le : ∀ t ∈ late, 4 ≤ t.val := by decide

/-- All transfers: the exchange, and those after it. -/
theorem finRange_split : List.finRange 32 = (List.finRange 4).map pT ++ late := by decide

omit [FloatOps F] in
/-- The place of a later transfer is a block of the gathering buffer. -/
theorem landPts_late (c : Dev nD) (t : Fin 32) (h : 4 ≤ t.val) :
    (landPts c t : sProp 𝕄) = iprop(∃ f, ((c : Thread nD τ).loc cc0_scratch0) ↦[bset (pos c t)]{fullShare} f) := by
  unfold landPts; exact if_neg (by omega)

omit [FloatOps F] in
/-- The place of an exchanged quarter is in the buffer for it. -/
theorem landPts_first (c : Dev nD) (l : Fin 4) :
    (landPts c (pT l) : sProp 𝕄) = iprop(∃ f, ((c : Thread nD τ).loc cc0_scratch3) ↦[qset (pq c l)]{fullShare} f) := by
  have h : (pT l).val < 4 := by revert l; decide
  have h' : lane (pT l) = l := by revert l; decide
  unfold landPts
  rw [if_pos h, h']

omit [FloatOps F] in
/-- Equal members, equal lists. -/
theorem bigSepL_congr {I : Type} {Φ Ψ : I → sProp (MT nD τ sig Unit (Elt F) ℕ UU ℕ)} : (l : List I) → (∀ i ∈ l, Φ i = Ψ i) → bigSepL l Φ = bigSepL l Ψ
  | [], _ => rfl
  | i :: l, h => by
    rw [bigSepL_cons, bigSepL_cons, h i List.mem_cons_self, bigSepL_congr l fun j hj => h j (List.mem_cons_of_mem _ hj)]

/-- The scratch buffers fall into the places of the transfers. -/
theorem scratch_init (c : Dev nD) : (Pipeline.scopedRest (Ix := Unit) (Name := ℕ) (U := UU) (Lvl := ℕ) (Val := Elt F) cfg0.spec c : sProp 𝕄) ⊢ resL m c initB := by
  have h0 := whole_any (F := F) ((c : Thread nD τ).loc cc0_scratch0) (fun t => bset (pos c t)) (fun t t' h => bset_disj c h) (bset_all c)
  have h3 := whole_any (F := F) ((c : Thread nD τ).loc cc0_scratch3) (fun l => qset (pq c l)) (fun t t' h => qset_disj c h) (qset_all c)
  rw [bigSep_univ_eq_bigSepL (List.finRange 32) (finRange_univ 32) (List.nodup_finRange 32), finRange_split, bigSepL_append, bigSepL_map,
    ← bigSepL_congr late fun t ht => landPts_late c t (late_le t ht)] at h0
  rw [bigSep_univ_eq_bigSepL (List.finRange 4) (finRange_univ 4) (List.nodup_finRange 4), ← bigSepL_congr _ fun l _ => landPts_first c l] at h3
  have hl : resL m c (((List.finRange 4).map pT ++ late).map .land) = iprop((bigSepL (List.finRange 4) fun l => landPts c (pT l)) ∗ bigSepL late fun t => landPts c t) := by
    unfold resL; rw [bigSepL_map, bigSepL_append, bigSepL_map]; rfl
  have ho : resL m c ((List.finRange 4).map .own) = bigSepL (List.finRange 4) fun l => iprop(∃ f, ((c : Thread nD τ).loc cc0_scratch0) ↦[bset (pos c (pT l))]{fullShare} f) := by
    unfold resL; rw [bigSepL_map]; rfl
  rw [scopedRest0_eq]
  unfold initB
  rw [finRange_split, resL_append, resL_append, hl, ho]
  simp only [resL_cons, resL_nil, res_msAny, res_xcAny]
  iintro ⟨H0, H1, H2, H3⟩
  ihave H0' := h0 $$ H0
  ihave H3' := h3 $$ H3
  icases H0' with ⟨Ho, Hl⟩
  isplitr [H1 H2]
  · isplitr [Ho]
    · isplitl [H3']; · iexact H3'
      iexact Hl
    iexact Ho
  isplitl [H2]; · iexact H2
  isplitl [H1]; · iexact H1
  iempintro

/-- The rest of the argument, which the body leaves alone. -/
def argRest (c : Dev nD) : sProp 𝕄 :=
  iprop(((c : Thread nD τ).loc main_arg0) ↦[Finset.univ \ cset (chunk c 0)]{fullShare} m ((c : Thread nD τ).loc main_arg0))

/-- The argument is its own chunk and the rest. -/
theorem arg_split (c : Dev nD) : ((((c : Thread nD τ).loc main_arg0) ↦{fullShare} m ((c : Thread nD τ).loc main_arg0)) : sProp 𝕄) ⊣⊢ iprop(res m c .xin ∗ argRest m c) :=
  pointsTo_split_subset (ℓ := (c : Thread nD τ).loc main_arg0) (Finset.subset_univ _)

/-- The argument's own chunk, and the result in chunks. -/
theorem arrays_init (c : Dev nD) :
    iprop((((c : Thread nD τ).loc main_arg0) ↦{fullShare} m ((c : Thread nD τ).loc main_arg0)) ∗ (((c : Thread nD τ).loc main_v1) ↦{fullShare} m ((c : Thread nD τ).loc main_v1)))
      ⊢ iprop(resL m c initA ∗ argRest m c) := by
  have h1 := whole_any (F := F) ((c : Thread nD τ).loc main_v1) (fun κ => cset (chunk c κ)) (fun t t' h => cset_disj c h) (cset_all c)
  unfold initA
  rw [resL_cons, resL_fin]
  simp only [res_oany]
  iintro ⟨Ha, Hv⟩
  ihave Ha' := (arg_split m c).1 $$ Ha
  icases Ha' with ⟨Hx, Hr⟩
  isplitr [Hr]
  · isplitl [Hx]; · iexact Hx
    iapply h1
    iexists (m ((c : Thread nD τ).loc main_v1)); iexact Hv
  iexact Hr

/-! ## The end -/

/-- The gathering buffer is whole again. -/
theorem gath_fin (c : Dev nD) :
    resL m c ((List.finRange 32).map (.blk 0) ++ (List.finRange 32).map (.blk 1) ++ (List.finRange 32).map (.blk 2))
      ⊢ iprop(((c : Thread nD τ).loc cc0_scratch0) ↦{fullShare} gF m c) := by
  rw [whole_parts ((c : Thread nD τ).loc cc0_scratch0) (fun t => bset (pos c t)) (fun t t' h => bset_disj c h) (bset_all c), resL_append, resL_append, resL_fin, resL_fin, resL_fin,
    ← bigSep_sep', ← bigSep_sep']
  exact bigSep_mono fun t _ => sep_assoc.trans (blk_shares m c t).2

/-- The scratch buffers are whole again. -/
theorem scratch_fin (c : Dev nD) : resL m c finB ⊢ (Pipeline.scopedRest (Ix := Unit) (Name := ℕ) (U := UU) (Lvl := ℕ) (Val := Elt F) cfg0.spec c : sProp 𝕄) := by
  have h2 := whole_parts (F := F) ((c : Thread nD τ).loc cc0_scratch2) (fun l => qset (pq (sdev c 0) l)) (fun t t' h => qset_disj (sdev c 0) h) (qset_all (sdev c 0)) (msF m c)
  have h3 := whole_parts (F := F) ((c : Thread nD τ).loc cc0_scratch3) (fun l => qset (pq c l)) (fun t t' h => qset_disj c h) (qset_all c) (p1F m c)
  rw [scopedRest0_eq]
  unfold finB
  rw [resL_append, resL_append, resL_append, resL_fin, resL_fin, resL_one]
  simp only [res_p1, res_ms, res_xcFull]
  iintro ⟨⟨⟨Hg, H3⟩, H2⟩, H1⟩
  isplitl [Hg]
  · iexists (gF m c); iapply (gath_fin m c); iexact Hg
  isplitl [H1]
  · iexists (xcF m c); iexact H1
  isplitl [H2]
  · iexists (msF m c); iapply (Entails.of_eq h2.symm); iexact H2
  iexists (p1F m c); iapply (Entails.of_eq h3.symm); iexact H3

/-- The argument is whole and unchanged, the result whole. -/
theorem arrays_fin (c : Dev nD) :
    iprop(resL m c finA ∗ argRest m c)
      ⊢ iprop((((c : Thread nD τ).loc main_arg0) ↦{fullShare} m ((c : Thread nD τ).loc main_arg0)) ∗ (((c : Thread nD τ).loc main_v1) ↦{fullShare} gF m c)) := by
  have h1 := whole_parts (F := F) ((c : Thread nD τ).loc main_v1) (fun κ => cset (chunk c κ)) (fun t t' h => cset_disj c h) (cset_all c) (gF m c)
  unfold finA
  rw [resL_cons, resL_fin]
  simp only [res_odone]
  iintro ⟨⟨Hx, Hv⟩, Hr⟩
  isplitr [Hv]
  · iapply (arg_split m c).2
    isplitl [Hx]; · iexact Hx
    iexact Hr
  iapply (Entails.of_eq h1.symm); iexact Hv

/-- A cell closes: its semaphore is at zero. -/
theorem close_cell (K : Dev nD × SemLoc sig → ℕ) (c : Dev nD) (s : SemLoc sig) :
    iprop(recs m K ∗ atPos ER (cell c s) (0 + 1) ∅ 0) ⊢ |={Set.univ}=> semVal (cell c s) 0 := by
  iintro ⟨HR, Hat⟩
  imod (Rounds.cell_close ER (Rd m) (Set.mem_univ (K (c, s))) (fun h => h) (R := 0 + 1) (duties_later m (cell c s))) $$ [HR Hat] with Hz
  · isplitl [HR]; · iapply (recs_inv m K c s); iexact HR
    iexact Hat
  imodintro
  iexact Hz

/-- All cells of a device close. -/
theorem close_cells (K : Dev nD × SemLoc sig → ℕ) (c : Dev nD) :
    iprop(recs m K ∗ resL m c finG)
      ⊢ |={Set.univ}=> iprop(unscopedSems0 c ∗ Pipeline.ownSems0 (Ix := Unit) (Name := ℕ) (U := UU) (Lvl := ℕ) (Val := Elt F) (τ := τ) osem c) := by
  have h : iprop(recs m K ∗ bigSep Finset.univ fun s : SemLoc sig => atPos ER (cell c s) (0 + 1) ∅ 0)
      ⊢ |={Set.univ}=> bigSep Finset.univ fun s : SemLoc sig => (semVal (cell c s) 0 : sProp 𝕄) :=
    (bigSep_with_persistent (R := recs m K) fun s _ => close_cell m K c s).trans (bigSep_fupd _ _)
  rw [bigSep_cells, bigSep_cells] at h
  rw [unscopedSems0_eq]
  unfold finG Pipeline.ownSems0
  rw [resL_append, resL_fin, resL_one]
  simp only [res_done, res_doneB, kcell, sem_cls]
  iintro ⟨HR, Hq, Hb⟩
  iapply h
  isplitl [HR]; · iexact HR
  isplitl [Hb]; · iexact Hb
  iexact Hq

end Cert.RingProof

end
-- ==== Proof.Launch.lean ====
/-
# `Launch`: the whole program runs

From any memory with all semaphores at zero the sixteen devices run to the end, the argument is as it was, the result
holds the gathered sums and every semaphore is at zero.
-/
module

public import proofs.«01_k».proof.Proof.Bufs
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- What a device starts with, the scratch buffers apart. -/
def start (c : Dev nD) : sProp 𝕄 := iprop(G' m c ∗ resL m c initC ∗ levAts L lv ∗ resL m c initA ∗ argRest m c)

/-- What a device ends with, its own semaphores and the scratch buffers apart. -/
def finish (c : Dev nD) : sProp 𝕄 :=
  iprop(unscopedSems0 c ∗ (((c : Thread nD τ).loc main_arg0) ↦{fullShare} m ((c : Thread nD τ).loc main_arg0)) ∗ (((c : Thread nD τ).loc main_v1) ↦{fullShare} gF m c))

/-- What the body starts from. -/
def Φ₀ (c : Dev nD) : sProp 𝕄 := iprop(start m c ∗ resL m c initB)
/-- What the body ends with. -/
def Φ₁ (c : Dev nD) : sProp 𝕄 := iprop(finish m c ∗ Pipeline.ownSems0 osem c ∗ Pipeline.scopedRest cfg0.spec c)

/-- The data of the one kernel call, which stages no array. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

/-! ## The body -/

/-- The resources of the end, put together. -/
theorem exit (K : Dev nD × SemLoc sig → ℕ) (c : Dev nD) :
    iprop(recs m K ∗ resL m c (finG ++ finB ++ finA) ∗ argRest m c) ⊢ |={Set.univ}=> Φ₁ m c := by
  rw [resL_append, resL_append]
  unfold Φ₁ finish
  iintro ⟨HR, ⟨⟨HG, HB⟩, HA⟩, Hr⟩
  imod (close_cells m K c) $$ [HR HG] with ⟨Hu, Ho⟩
  · isplitl [HR]; · iexact HR
    iexact HG
  imodintro
  isplitr [HB Ho]
  · isplitl [Hu]; · iexact Hu
    iapply (arrays_fin m c)
    isplitl [HA]; · iexact HA
    iexact Hr
  isplitl [Ho]; · iexact Ho
  iapply (scratch_fin m c)
  iexact HB

/-- The body from the launch's resources to the end's. -/
theorem sound_body (c : Dev nD) (W : Waits sig Unit) (Q : PUnit.{1} → sProp (MT nD τ sig Unit (Elt F) ℕ UU ℕ)) :
    iprop(Φ₀ m c ∗ owes (c : Thread nD τ) (O₀ c) W) ⊢ iprop((∀ W' : Waits sig Unit, (owes (c : Thread nD τ) 0 W' -∗ (Φ₁ m c -∗ Q ⟨⟩))) -∗ WP c (runSteps c steps) Q) := by
  unfold Φ₀ start G'
  iintro ⟨⟨⟨⟨%K, #HR, HG⟩, HC, #HL, HA, Hr⟩, HB⟩, HO⟩ Hk
  iapply (body_run m K c Q W) $$ [HO HG HC HB HA]
  · isplitr; · iexact HR
    isplitr; · iexact HL
    isplitl [HO]; · iexact HO
    iapply (Entails.of_eq (resL_append m c (initG ++ initC ++ initB) initA).symm)
    isplitr [HA]
    · iapply (Entails.of_eq (resL_append m c (initG ++ initC) initB).symm)
      isplitr [HB]
      · iapply (Entails.of_eq (resL_append m c initG initC).symm)
        isplitl [HG]; · iexact HG
        iexact HC
      iexact HB
    iexact HA
  iintro %W' HO Hf
  imod (exit m K c) $$ [Hf Hr] with H1
  · isplitr; · iexact HR
    isplitl [Hf]; · iexact Hf
    iexact Hr
  imodintro
  iapply Hk $$ %W' HO
  iexact H1

/-- The one point of the call. -/
def t₀ : Fin cfg0.N := ⟨0, by rw [show cfg0.N = 1 from N_0]; decide⟩
/-- The grid has no other step. -/
theorem fin_N (t : Fin cfg0.N) : t = t₀ := fin_N0 t

/-- What is owed around the body. -/
theorem owes_before (c : Dev nD) : (dats m 0 c).owesAt () t₀.castSucc ⊢ iprop(∃ W : Waits sig Unit, owes (c : Thread nD τ) (O₀ c) W) := by
  unfold Dat.owesAt Pipeline.owesWithin
  iintro ⟨%W, %hW, HO⟩
  iexists W
  iexact HO
/-- At the end nothing is owed. -/
theorem owes_after (c : Dev nD) (W : Waits sig Unit) : (owes (c : Thread nD τ) 0 W : sProp 𝕄) ⊢ (dats m 0 c).owesAt () t₀.succ := by
  unfold Dat.owesAt Pipeline.owesWithin
  rw [show (dats m 0 c).owed t₀.succ = 0 from rfl]
  iintro HO
  iexists W
  isplitr; · ipureintro; exact fun _ _ => Or.inl trivial
  iexact HO

omit [FloatOps F] in
/-- The call stages no array. -/
theorem win_none (f : Fin cfg0.W → sProp 𝕄) : (iprop(emp) : sProp 𝕄) ⊢ bigSep Finset.univ f :=
  Entails.of_eq (by rw [show (Finset.univ : Finset (Fin cfg0.W)) = ∅ from rfl, BI.bigSep_empty]; rfl)

set_option maxRecDepth 20000 in
/-- The obligation of the body, as the launch asks for it. -/
theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ bigSep Finset.univ _)
    ⊢ wp frame (wpE (defs₀ (F := F)) 𝒱₀ c none) Set.univ (bodyAt0 (F := F) t₀) (fun _ => iprop(Φ₁ m c ∗ (dats m 0 c).owesAt () t₀.succ ∗ bigSep Finset.univ _))
  rw [cc0_body_run, wp_deviceId]
  iintro ⟨HΦ, Ho, Hw⟩
  ihave Ho' := (owes_before m c) $$ Ho
  icases Ho' with ⟨%W, HO⟩
  iapply (sound_body m c W _) $$ [HΦ HO]
  · isplitl [HΦ]; · iexact HΦ
    iexact HO
  iintro %W' HO H1
  isplitl [H1]; · iexact H1
  isplitl [HO]; · iapply (owes_after m c W'); iexact HO
  iapply (win_none _)
  iempintro

/-! ## The launch -/

/-- The ghost state at launch. -/
def u₀ : UU :=
  (initOf (Pipeline.cells cfgs cellOf_inj) (Pipeline.launchToks cfgs cellOf_inj), initOf ringCells ringToks)

/-- What a device starts with, from what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hu, Hlev, Hcr, -, HG⟩
  ihave Hc := (creds m c) $$ Hcr
  ihave Ha := (arrays_init m c) $$ Hu
  imodintro
  unfold start
  isplitl
  · isplitl [HG]; · iexact HG
    isplitl [Hc]; · iexact Hc
    isplitl [Hlev]; · iexact Hlev
    iexact Ha
  · iempintro

/-- The scratch buffers complete what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_init m c)
  iexact Hr

/-- What the body ends with is what the launch takes back. -/
theorem phi1_exit (c : Dev nD) :
    (dats m 0 c).Φ (Fin.last cfg0.N) ⊢ iprop(finish m c ∗ Pipeline.ownSems0 osem c ∗ Pipeline.scopedRest cfg0.spec c) := BI.Entails.refl _

/-- No window waits. -/
theorem waits (c : Dev nD) : (levAts L lv : sProp 𝕄) ⊢ Pipeline.cellsWaits cfgs (dats m) () 0 c :=
  Pipeline.cellsWaits_intro cfgs (dats m) () 0 c fun w s t => w.elim0

/-- What a final memory is read to be on device `c`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = gF m c

omit [FloatOps F] in
/-- A whole buffer at a location is what the memory holds there. -/
theorem read_one (ℓ : Loc nD τ sig) (f : Buf (Elt F) ℓ) (s' : Phys nD τ sig (Elt F)) :
    iprop(((ℓ ↦{fullShare} f) : sProp 𝕄) ∗ SI s') ⊢ iprop(⌜s'.mem.mem ℓ = f⌝ ∗ SI s') := by
  have h := pointsTo_read_all (Ix := Unit) (Name := ℕ) (U := UU) (Lvl := ℕ) {()} (fun _ : Unit => ℓ) (fun _ => f) s'
  rw [bigSep_singleton] at h
  iintro H
  ihave H' := h $$ H
  icases H' with ⟨%h', HS⟩
  isplitr; · ipureintro; exact h' () (Finset.mem_singleton_self _)
  iexact HS

/-- What a device ends with shows in the memory. -/
theorem read_finish (c : Dev nD) (s' : Phys nD τ sig (Elt F)) :
    iprop(finish m c ∗ emp ∗ SI s') ⊢ |={Set.univ}=> iprop(⌜QY m c s'.mem⌝ ∗ SI s') := by
  unfold finish
  iintro ⟨⟨Hu, Ha, Hv⟩, -, HSI⟩
  ihave H1 := (read_one _ _ s') $$ [Ha HSI]
  · isplitl [Ha]; · iexact Ha
    iexact HSI
  icases H1 with ⟨%h1, HSI⟩
  ihave H2 := (read_one _ _ s') $$ [Hv HSI]
  · isplitl [Hv]; · iexact Hv
    iexact HSI
  icases H2 with ⟨%h2, HSI⟩
  imod (Pipeline.unscopedSems0_read (X := unscopedSems0 c) (c := c) fupd_intro s') $$ [Hu HSI] with ⟨%h3, HSI⟩
  · isplitl [Hu]; · iexact Hu
    iexact HSI
  imodintro
  isplitr; · ipureintro; exact ⟨h3, h1, h2⟩
  iexact HSI

set_option maxRecDepth 8000 in
/-- For any float values, from any memory with all semaphores at zero: the sixteen devices run to the end, the argument
    is unchanged, each device's result holds the gathered sums, and every semaphore is at zero. -/
theorem run_main : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_v1) = gF m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m) (hout := phi1_exit m)
    (QY := QY m) (hY := read_finish m)
    (hQ := fun _ h hs => ⟨fun c => (h c).2.2.2, sem_eq_zero hs fun c => (h c).2.2.1⟩)

end Cert.RingProof

end
-- ==== Proof.Value.lean ====
/-
# `Value`: what the devices gather is the reference's sum

At the ideal values a change of format is the identity, so each gathered element is the sum of the two halves of the
reference's argument at that position.
-/
module

public import proofs.«01_k».proof.Proof.Launch
public import proofs.«01_k».proof.Proof.Gen.ReferenceIdeal.Run
public import Idealize.ShloMosaic.Lib.Layout
public import Idealize.ShloMosaic.Lib.Pointwise.Reduce

@[expose] public section

noncomputable section

namespace Cert.RingProof

open Idealize.ShloMosaic
open Idealize.ShloMosaic.TcCoe
open Idealize.SL.Sem

section Kernel

open Cert.KernelIdeal Cert.KernelIdeal.Gen

variable (m : (ℓ : Loc nD τ sig) → Buf (Elt Ideal) ℓ)

/-- A device's argument, as numbers. -/
def argE (d : Dev nD) : S4096x1024.Idx → EReal := m ((d : Thread nD τ).loc main_arg0)

/-- A device's own chunk read at a position of that chunk is its argument there. -/
theorem xcF_apply (d : Dev nD) (i : S4096x1024.Idx) (h : place d = (i 0).val / 512) :
    xcF m d (inChunk i) = argE m d i := by
  have e : (xchunk d).view.emb (inChunk i) = i := by
    have h1 := congrFun (off1_eq d)
    have hc : (chunk d 0).val = place d % 8 := rfl
    have hi : (i 0).val < 4096 := (i 0).isLt
    funext a
    refine Fin.ext ?_
    revert a
    refine Fin.forall_fin_two.mpr ⟨?_, ?_⟩
    · show k0_off1 d 0 + 1 * ((i 0).val % 512) = (i 0).val
      rw [h1 0]
      show 512 * (chunk d 0).val + 1 * ((i 0).val % 512) = (i 0).val
      omega
    · show k0_off1 d 1 + 1 * (i 1).val = (i 1).val
      rw [h1 1]
      show 0 + 1 * (i 1).val = (i 1).val
      omega
  unfold xcF
  rw [View.read_apply, e]
  rfl

/-- One element of a sum is the sum of its parts. -/
theorem addE_eq (a : Elt Ideal .f32) (b : Elt Ideal .bf16) : addE a b = ((a : EReal) + (b : EReal) : EReal) := by
  unfold addE k0_pay2
  simp only [shapeCast_self]
  rfl

/-- The own chunk rounded is the own chunk. -/
theorem msF_eq (d : Dev nD) (j : S512x1024.Idx) : msF m d j = xcF m d j := by
  unfold msF k0_pay1
  simp only [shapeCast_self]
  rfl

/-- A gathered element is the sum of two devices' arguments, a device and its partner. -/
theorem gF_apply (c : Dev nD) (i : S4096x1024.Idx) :
    ∃ d : Dev nD, gF m c i = argE m d i + argE m (sdev d 0) i := by
  have hi : (i 0).val < 4096 := (i 0).isLt
  refine ⟨org c ⟨(i 0).val / 128, by omega⟩, ?_⟩
  have hp : place (org c ⟨(i 0).val / 128, by omega⟩) = (i 0).val / 512 := (place_org c _).trans (by show (i 0).val / 128 / 4 = _; omega)
  rw [← xcF_apply m _ i hp, ← xcF_apply m _ i ((place_partner _).trans hp), ← msF_eq m (sdev _ 0)]
  exact addE_eq _ _

/-- A position of one half, in the whole. -/
def half (k : Fin 2) (i : S4096x1024.Idx) : Cert.ReferenceIdeal.S8192x1024.Idx := fun
  | 0 => ⟨4096 * k.val + (i 0).val, by have h : (i 0).val < 4096 := (i 0).isLt; have := k.isLt; show _ < 8192; omega⟩
  | 1 => i 1

/-- The plane of a device. -/
def plane (c : Dev nD) : Fin 2 := ⟨c.val / 8, by have h : c.val < 16 := c.isLt; omega⟩

/-- A device and its partner lie on the two planes. -/
theorem plane_pair (c : Dev nD) : (plane c = 0 ∧ plane (sdev c 0) = 1) ∨ (plane c = 1 ∧ plane (sdev c 0) = 0) := by
  revert c; decide +kernel

/-- The mesh coordinate that cuts the rows is the plane. -/
theorem meshBlock_plane (c : Dev nD) :
    ((Layout.meshBlock [2, 2, 4] ![[0], []] c) 0).val = (plane c).val ∧ ((Layout.meshBlock [2, 2, 4] ![[0], []] c) 1).val = 0 := by
  revert c; decide +kernel

/-- A device's block of a whole array is the half that its plane names. -/
theorem block_half (v : Cert.ReferenceIdeal.S8192x1024.Idx → EReal) (c : Dev nD) (i : S4096x1024.Idx) :
    Layout.blockN ⟨2, ![4096, 1024]⟩ ⟨2, ![8192, 1024]⟩ (Layout.meshBlock [2, 2, 4] ![[0], []] c) v (by decide) i = v (half (plane c) i) := by
  rw [Layout.blockN_apply]
  refine congrArg v (funext fun a => Fin.ext ?_)
  rw [Layout.TilesN.idx_val]
  have h := meshBlock_plane c
  revert a
  refine Fin.forall_fin_two.mpr ⟨?_, ?_⟩
  · show ((Layout.meshBlock [2, 2, 4] ![[0], []] c) 0).val * 4096 + (i 0).val = 4096 * (plane c).val + (i 0).val
    rw [h.1]; omega
  · show ((Layout.meshBlock [2, 2, 4] ![[0], []] c) 1).val * 1024 + (i 1).val = (i 1).val
    rw [h.2]; omega

/-- The gathered array is the sum of the two halves. -/
theorem gF_halves (v : Cert.ReferenceIdeal.S8192x1024.Idx → EReal)
    (h : ∀ c : Dev nD, m ((c : Thread nD τ).loc main_arg0) = Layout.blockN ⟨2, ![4096, 1024]⟩ ⟨2, ![8192, 1024]⟩ (Layout.meshBlock [2, 2, 4] ![[0], []] c) v (by decide))
    (c : Dev nD) (i : S4096x1024.Idx) : gF m c i = v (half 0 i) + v (half 1 i) := by
  obtain ⟨d, hd⟩ := gF_apply m c i
  have e : ∀ c, argE m c i = v (half (plane c) i) := fun c => (congrFun (h c) i).trans (block_half v c i)
  rw [hd, e, e]
  rcases plane_pair d with ⟨h1, h2⟩ | ⟨h1, h2⟩
  · rw [h1, h2]
  · rw [h1, h2, add_comm]

end Kernel

section Reference

open Cert.ReferenceIdeal Cert.ReferenceIdeal.Gen

/-- The reference's result as its operations make it from its argument. -/
def refV (v : S8192x1024.Idx → Elt Ideal .f32) : S4096x1024.Idx → Elt Ideal .bf16 :=
  truncf .bf16 (Host.reduceAdd (shapeCast _ v shapeCasts_S8192x1024_S2x4096x1024) (constant (F := Ideal) S_ .f32 0x00000000#32)
    reducesTo_S2x4096x1024_S4096x1024_d0 h_S_) bitsLt_bf16_f32

/-- The argument cut in two, read at an index: the half it names. -/
theorem cut_apply (v : S8192x1024.Idx → Elt Ideal .f32) (i : S4096x1024.Idx) (k : Fin 2) (j : S2x4096x1024.Idx)
    (h0 : (j 0).val = k.val) (h1 : (j 1).val = (i 0).val) (h2 : (j 2).val = (i 1).val) :
    shapeCast S2x4096x1024 v shapeCasts_S8192x1024_S2x4096x1024 j = v (half k i) := by
  refine shapeCast_apply v _ j (half k i) ?_
  rw [Shape.rowMajor_val_two, Shape.rowMajor_val_three, h0, h1, h2]
  show (4096 * k.val + (i 0).val) * 1024 + (i 1).val = (k.val * 4096 + (i 0).val) * 1024 + (i 1).val
  omega

/-- The reference's result at a position: the sum of the two halves there. -/
theorem refV_apply (v : S8192x1024.Idx → Elt Ideal .f32) (i : S4096x1024.Idx) : refV v i = (v (half 0 i) + v (half 1 i) : EReal) := by
  show Ideal.hostReduceAdd reducesTo_S2x4096x1024_S4096x1024_d0 (shapeCast S2x4096x1024 v shapeCasts_S8192x1024_S2x4096x1024)
    (Ideal.ofBits .f32 0x00000000#32) i = _
  rw [Ideal.hostReduceAdd_r3_a0, Fin.sum_univ_two, Ideal.ofBits_zero_f32, zero_add]
  rw [cut_apply v i 0 _ rfl rfl rfl, cut_apply v i 1 _ rfl rfl rfl]

end Reference

end Cert.RingProof

end
-- ==== Proof.lean ====
/-
# The claims

The kernel, read over any float values, runs to the end from every memory whose semaphores are at zero
(`Cert.RingProof.run_main`). Both frames of the kernel are that run, at the words and at the ideal values. The
reference's run is generated. The value claim compares the two results position by position.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel
open Cert.RingProof (gF refV refV_apply gF_halves run_main)

/-- The kernel as printed leaves its argument as it was and every semaphore at zero. -/
theorem frame_kernel : Cert.quiescent_Kernel := fun m ρ _ =>
  (θ_run Cert.KernelIdeal.defs _ _).mono (fun _ h => ⟨fun c => (h.1 c).1, h.2⟩) (run_main (F := Bits) m ρ)

/-- So does the kernel read at the ideal values. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference leaves its argument as it was, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel's result is the reference's. -/
theorem values : Cert.algebraic_KernelIdeal_ReferenceIdeal := fun m ρ m' ρ' _ hblk =>
  ⟨refV (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (funext fun i => (gF_halves m _ hblk c i).trans (refV_apply _ i).symm), (h.1 c).1⟩)
      (run_main (F := Ideal) m ρ),
    (θ_run Cert.ReferenceIdeal.defs _ _).mono (fun _ h => ⟨(h 0).1, (h 0).2⟩) (Cert.ReferenceIdeal.Value.run (F := Ideal) m' ρ')⟩

/-- All that is claimed. -/
theorem claim : Cert.Claim :=
  ⟨Cert.Kernel.Gen.facts, Cert.KernelIdeal.Gen.facts, Cert.ReferenceIdeal.Gen.facts,
    frame_kernel, frame_kernelIdeal, frame_reference, trivial, values⟩

end Cert.Proof

end
